-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usable_scales [hPre_usable_scales : Cert.Pre_usable_scales.Facts] (m : (ℓ : Loc Cert.KernelIdeal.nD Cert.KernelIdeal.τ Cert.KernelIdeal.sig) → Buf (Elt Ideal) ℓ) : Prop :=
  ∀ c : Dev Cert.KernelIdeal.nD,
    (Cert.Pre_usable_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usable_scales [hPre_usable_scales : Cert.Pre_usable_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usable_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_usable_scales [hKernelIdeal : Cert.KernelIdeal.Facts] [hPre_usable_scales : Cert.Pre_usable_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usable_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_usable_scales [hReferenceIdeal : Cert.ReferenceIdeal.Facts] [hPre_usable_scales : Cert.Pre_usable_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usable_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_usable_scales [hKernelIdeal : Cert.KernelIdeal.Facts] [hReferenceIdeal : Cert.ReferenceIdeal.Facts] [hPre_usable_scales : Cert.Pre_usable_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usable_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v17_2)) (v4 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v17_2) = v3 c
          ∧ r.2.mem ((c.tc : Thread Cert.KernelIdeal.nD Cert.KernelIdeal.τ).loc Cert.KernelIdeal.main_v6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v104) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_v105) = v3 c
          ∧ r.2.mem ((c.tc : Thread Cert.ReferenceIdeal.nD Cert.ReferenceIdeal.τ).loc Cert.ReferenceIdeal.main_v54) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_usable_scales : Cert.Pre_usable_scales.Facts),
    quiescent_Kernel (hKernel := hKernel)
    ∧ quiescent_KernelIdeal (hKernelIdeal := hKernelIdeal)
    ∧ quiescent_KernelIdeal_pre_usable_scales (hKernelIdeal := hKernelIdeal) (hPre_usable_scales := hPre_usable_scales)
    ∧ quiescent_ReferenceIdeal (hReferenceIdeal := hReferenceIdeal)
    ∧ quiescent_ReferenceIdeal_pre_usable_scales (hReferenceIdeal := hReferenceIdeal) (hPre_usable_scales := hPre_usable_scales)
    ∧ preserves_Kernel_KernelIdeal
    ∧ algebraic_KernelIdeal_ReferenceIdeal_pre_usable_scales (hKernelIdeal := hKernelIdeal) (hReferenceIdeal := hReferenceIdeal) (hPre_usable_scales := hPre_usable_scales)
-- ==== Pre_usable_scales.lean ====
abbrev S32x1x4096 : Shape := ⟨3, ![32, 1, 4096]⟩
abbrev S32x1x4x128 : Shape := ⟨4, ![32, 1, 4, 128]⟩
abbrev S32x32768x4x128 : Shape := ⟨4, ![32, 32768, 4, 128]⟩
abbrev S4 : Shape := ⟨1, ![4]⟩
abbrev S_ : Shape := ⟨0, ![]⟩

class Facts : Prop where
  bcast_S_S4 : S_.BroadcastsInDim S4 (![] : Fin 0 → Fin S4.rank)

variable [Facts]

def fn {F : FTy → Type} [FloatOps F] (main_arg0 : FVec F S32x1x4096 .bf16) (main_arg1 : FVec F S32x1x4x128 .bf16) (main_arg2 : FVec F S32x1x4x128 .bf16) (main_arg3 : FVec F S32x32768x4x128 .fp8e4m3) (main_arg4 : IVec S4 32) (main_arg5 : FVec F S32x32768x4x128 .fp8e4m3) (main_arg6 : IVec S4 32) : IVec S4 1 :=
  let main_c : IVec S_ 32 := constantI S_ 32 0#32
  let main_v0 : IVec S4 32 := broadcastInDim S4 ![] bcast_S_S4 main_c
  let main_v1 : IVec S4 1 := cmpi .sge main_arg4 main_v0
  let main_c_0 : IVec S_ 32 := constantI S_ 32 2130706432#32
  let main_v2 : IVec S4 32 := broadcastInDim S4 ![] bcast_S_S4 main_c_0
  let main_v3 : IVec S4 1 := cmpi .slt main_arg4 main_v2
  let main_v4 : IVec S4 1 := andi main_v1 main_v3
  let main_c_1 : IVec S_ 32 := constantI S_ 32 0#32
  let main_v5 : IVec S4 32 := broadcastInDim S4 ![] bcast_S_S4 main_c_1
  let main_v6 : IVec S4 1 := cmpi .sge main_arg6 main_v5
  let main_c_2 : IVec S_ 32 := constantI S_ 32 2130706432#32
  let main_v7 : IVec S4 32 := broadcastInDim S4 ![] bcast_S_S4 main_c_2
  let main_v8 : IVec S4 1 := cmpi .slt main_arg6 main_v7
  let main_v9 : IVec S4 1 := andi main_v6 main_v8
  let main_v10 : IVec S4 1 := andi main_v4 main_v9
  main_v10
-- ==== Kernel.lean ====
abbrev S32x1x4096 : Shape := ⟨3, ![32, 1, 4096]⟩
abbrev S32x1x4x128 : Shape := ⟨4, ![32, 1, 4, 128]⟩
abbrev S32x32768x4x128 : Shape := ⟨4, ![32, 32768, 4, 128]⟩
abbrev S4 : Shape := ⟨1, ![4]⟩
abbrev S32x32x128 : Shape := ⟨3, ![32, 32, 128]⟩
abbrev S32x4x128 : Shape := ⟨3, ![32, 4, 128]⟩
abbrev S128x128 : Shape := ⟨2, ![128, 128]⟩
abbrev S1x4 : Shape := ⟨2, ![1, 4]⟩
abbrev S32x4 : Shape := ⟨2, ![32, 4]⟩
abbrev S128 : Shape := ⟨1, ![128]⟩
abbrev S128x1 : Shape := ⟨2, ![128, 1]⟩
abbrev S32x131072x128 : Shape := ⟨3, ![32, 131072, 128]⟩
abbrev S1x32x128 : Shape := ⟨3, ![1, 32, 128]⟩
abbrev S1x4x128 : Shape := ⟨3, ![1, 4, 128]⟩
abbrev S1x32768x128 : Shape := ⟨3, ![1, 32768, 128]⟩
abbrev S64x256 : Shape := ⟨2, ![64, 256]⟩
abbrev S16x16384 : Shape := ⟨2, ![16, 16384]⟩
abbrev S32x128 : Shape := ⟨2, ![32, 128]⟩
abbrev S8x128 : Shape := ⟨2, ![8, 128]⟩
abbrev S32x256 : Shape := ⟨2, ![32, 256]⟩
abbrev S1 : Shape := ⟨1, ![1]⟩
abbrev S1x512x128 : Shape := ⟨3, ![1, 512, 128]⟩
abbrev S512x128 : Shape := ⟨2, ![512, 128]⟩
abbrev S512x256 : Shape := ⟨2, ![512, 256]⟩
abbrev S64x512 : Shape := ⟨2, ![64, 512]⟩
abbrev S8 : Shape := ⟨1, ![8]⟩
abbrev S8x1 : Shape := ⟨2, ![8, 1]⟩
abbrev S64x128 : Shape := ⟨2, ![64, 128]⟩
abbrev S1x1x128 : Shape := ⟨3, ![1, 1, 128]⟩
abbrev S1x128 : Shape := ⟨2, ![1, 128]⟩
abbrev S1x8x128 : Shape := ⟨3, ![1, 8, 128]⟩

abbrev nBuf : Space → Nat
  | .hbm => 27
  | .vmem => 23
  | .smem => 4
  | _ => 0

abbrev bufTy : (tb : Table) → Fin (tcTables nBuf tb) → BufTy
  | .hbm, ⟨0, _⟩ => ⟨S32x1x4096, .bf16⟩
  | .hbm, ⟨1, _⟩ => ⟨S32x1x4x128, .bf16⟩
  | .hbm, ⟨2, _⟩ => ⟨S32x1x4x128, .bf16⟩
  | .hbm, ⟨3, _⟩ => ⟨S32x32768x4x128, .fp8e4m3⟩
  | .hbm, ⟨4, _⟩ => ⟨S4, .i32⟩
  | .hbm, ⟨5, _⟩ => ⟨S32x32768x4x128, .fp8e4m3⟩
  | .hbm, ⟨6, _⟩ => ⟨S4, .i32⟩
  | .hbm, ⟨7, _⟩ => ⟨S32x32x128, .bf16⟩
  | .hbm, ⟨8, _⟩ => ⟨S32x4x128, .bf16⟩
  | .hbm, ⟨9, _⟩ => ⟨S32x4x128, .bf16⟩
  | .hbm, ⟨10, _⟩ => ⟨S128x128, .bf16⟩
  | .hbm, ⟨11, _⟩ => ⟨S128x128, .bf16⟩
  | .hbm, ⟨12, _⟩ => ⟨S4, .f32⟩
  | .hbm, ⟨13, _⟩ => ⟨S4, .f32⟩
  | .hbm, ⟨14, _⟩ => ⟨S1x4, .i32⟩
  | .hbm, ⟨15, _⟩ => ⟨S32x4, .i32⟩
  | .hbm, ⟨16, _⟩ => ⟨S128, .i32⟩
  | .hbm, ⟨17, _⟩ => ⟨S128x1, .i32⟩
  | .hbm, ⟨18, _⟩ => ⟨S1x4, .i32⟩
  | .hbm, ⟨19, _⟩ => ⟨S32x4, .i32⟩
  | .hbm, ⟨20, _⟩ => ⟨S128, .i32⟩
  | .hbm, ⟨21, _⟩ => ⟨S128x1, .i32⟩
  | .hbm, ⟨22, _⟩ => ⟨S32x131072x128, .fp8e4m3⟩
  | .hbm, ⟨23, _⟩ => ⟨S32x131072x128, .fp8e4m3⟩
  | .hbm, ⟨24, _⟩ => ⟨S32x32x128, .bf16⟩
  | .hbm, ⟨25, _⟩ => ⟨S128x128, .fp8e4m3⟩
  | .hbm, ⟨26, _⟩ => ⟨S128x128, .fp8e4m3⟩
  | .local _ .vmem, ⟨0, _⟩ => ⟨S1x32x128, .bf16⟩
  | .local _ .vmem, ⟨1, _⟩ => ⟨S1x32x128, .bf16⟩
  | .local _ .vmem, ⟨2, _⟩ => ⟨S1x4x128, .bf16⟩
  | .local _ .vmem, ⟨3, _⟩ => ⟨S1x4x128, .bf16⟩
  | .local _ .vmem, ⟨4, _⟩ => ⟨S1x4x128, .bf16⟩
  | .local _ .vmem, ⟨5, _⟩ => ⟨S1x4x128, .bf16⟩
  | .local _ .vmem, ⟨6, _⟩ => ⟨S128x128, .bf16⟩
  | .local _ .vmem, ⟨7, _⟩ => ⟨S128x128, .bf16⟩
  | .local _ .vmem, ⟨8, _⟩ => ⟨S128x1, .i32⟩
  | .local _ .vmem, ⟨9, _⟩ => ⟨S128x1, .i32⟩
  | .local _ .vmem, ⟨10, _⟩ => ⟨S1x32768x128, .fp8e4m3⟩
  | .local _ .vmem, ⟨11, _⟩ => ⟨S1x32768x128, .fp8e4m3⟩
  | .local _ .vmem, ⟨12, _⟩ => ⟨S1x32768x128, .fp8e4m3⟩
  | .local _ .vmem, ⟨13, _⟩ => ⟨S1x32768x128, .fp8e4m3⟩
  | .local _ .vmem, ⟨14, _⟩ => ⟨S1x32x128, .bf16⟩
  | .local _ .vmem, ⟨15, _⟩ => ⟨S1x32x128, .bf16⟩
  | .local _ .vmem, ⟨16, _⟩ => ⟨S128x128, .fp8e4m3⟩
  | .local _ .vmem, ⟨17, _⟩ => ⟨S128x128, .fp8e4m3⟩
  | .local _ .vmem, ⟨18, _⟩ => ⟨S64x256, .bf16⟩
  | .local _ .vmem, ⟨19, _⟩ => ⟨S16x16384, .f32⟩
  | .local _ .vmem, ⟨20, _⟩ => ⟨S32x128, .f32⟩
  | .local _ .vmem, ⟨21, _⟩ => ⟨S8x128, .f32⟩
  | .local _ .vmem, ⟨22, _⟩ => ⟨S64x256, .f32⟩
  | .local _ .smem, ⟨0, _⟩ => ⟨S4, .f32⟩
  | .local _ .smem, ⟨1, _⟩ => ⟨S4, .f32⟩
  | .local _ .smem, ⟨2, _⟩ => ⟨S4, .i32⟩
  | .local _ .smem, ⟨3, _⟩ => ⟨S4, .i32⟩
  | _, _ => ⟨S32x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev main_v17_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg11_0 : Ref sig .tc := ⟨.vmem, 10, rfl⟩
abbrev cc0_stg11_1 : Ref sig .tc := ⟨.vmem, 11, rfl⟩
abbrev cc0_stg12_0 : Ref sig .tc := ⟨.vmem, 12, rfl⟩
abbrev cc0_stg12_1 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg15_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_stg7_0 : Ref sig .tc := ⟨.smem, 0, rfl⟩
abbrev cc0_stg8_0 : Ref sig .tc := ⟨.smem, 1, rfl⟩
abbrev cc0_stg9_0 : Ref sig .tc := ⟨.smem, 2, rfl⟩
abbrev cc0_stg10_0 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem15_0 : DmaSem sig := 21

abbrev nD : Nat := 1
abbrev τ : Topo := Topo.v7x

variable {F : FTy → Type} [FloatOps F]

abbrev grid0 : Pipeline.Grid := ⟨2, ![32, 4], ![false, false]⟩

def k0_cond3 (i : grid0.Coords) : BitVec 1 :=
  let arg1 : BitVec 32 := BitVec.ofNat 32 (i 1).val
  let c3_i32_3161 : BitVec 32 := 3#32
  let v9463 : BitVec 1 := Scalar.cmpi .eq arg1 c3_i32_3161
  let v9464 : BitVec 32 := Scalar.extui v9463
  let c0_i32_3162 : BitVec 32 := 0#32
  let v9465 : BitVec 1 := Scalar.cmpi .ne v9464 c0_i32_3162
  v9465

def k0_cond1 (i : grid0.Coords) : BitVec 1 :=
  let arg0 : BitVec 32 := BitVec.ofNat 32 (i 0).val
  let c31_i32 : BitVec 32 := 31#32
  let v17 : BitVec 1 := Scalar.cmpi .eq arg0 c31_i32
  let arg1 : BitVec 32 := BitVec.ofNat 32 (i 1).val
  let c3_i32 : BitVec 32 := 3#32
  let v18 : BitVec 1 := Scalar.cmpi .eq arg1 c3_i32
  let v19 : BitVec 1 := Scalar.andi v17 v18
  let v20 : BitVec 32 := Scalar.extui v19
  let c0_i32_3 : BitVec 32 := 0#32
  let v21 : BitVec 1 := Scalar.cmpi .ne v20 c0_i32_3
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x32x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .smem S4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .smem S4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .smem S4 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .smem S4 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x32768x128 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x32768x128 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x32x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S128x128 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x128 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== ReferenceIdeal.lean ====
abbrev S32x1x4096 : Shape := ⟨3, ![32, 1, 4096]⟩
abbrev S32x1x4x128 : Shape := ⟨4, ![32, 1, 4, 128]⟩
abbrev S32x32768x4x128 : Shape := ⟨4, ![32, 32768, 4, 128]⟩
abbrev S4 : Shape := ⟨1, ![4]⟩
abbrev S32x4x128 : Shape := ⟨3, ![32, 4, 128]⟩
abbrev S254 : Shape := ⟨1, ![254]⟩
abbrev S_ : Shape := ⟨0, ![]⟩
abbrev S1x254 : Shape := ⟨2, ![1, 254]⟩
abbrev S4x1 : Shape := ⟨2, ![4, 1]⟩
abbrev S4x254 : Shape := ⟨2, ![4, 254]⟩
abbrev S1x4x1 : Shape := ⟨3, ![1, 4, 1]⟩
abbrev S32x4x8x128 : Shape := ⟨4, ![32, 4, 8, 128]⟩
abbrev S1x1x4x1 : Shape := ⟨4, ![1, 1, 4, 1]⟩
abbrev S32x4x8x32768 : Shape := ⟨4, ![32, 4, 8, 32768]⟩
abbrev S32x4x8 : Shape := ⟨3, ![32, 4, 8]⟩
abbrev S32x4x8x1 : Shape := ⟨4, ![32, 4, 8, 1]⟩
abbrev S32x4x1x128 : Shape := ⟨4, ![32, 4, 1, 128]⟩
abbrev S32x32x128 : Shape := ⟨3, ![32, 32, 128]⟩
abbrev S128x128 : Shape := ⟨2, ![128, 128]⟩

abbrev nBuf : Space → Nat
  | .hbm => 146
  | .vmem => 10
  | .smem => 0
  | _ => 0

abbrev hbmTy0_0 (i : Nat) : BufTy := match i % 128 with
  | 0 => ⟨S32x1x4096, .bf16⟩
  | 1 => ⟨S32x1x4x128, .bf16⟩
  | 2 => ⟨S32x1x4x128, .bf16⟩
  | 3 => ⟨S32x32768x4x128, .fp8e4m3⟩
  | 4 => ⟨S4, .i32⟩
  | 5 => ⟨S32x32768x4x128, .fp8e4m3⟩
  | 6 => ⟨S4, .i32⟩
  | 7 => ⟨S32x4x128, .bf16⟩
  | 8 => ⟨S32x4x128, .f32⟩
  | 9 => ⟨S32x4x128, .bf16⟩
  | 10 => ⟨S32x4x128, .f32⟩
  | 11 => ⟨S4, .f32⟩
  | 12 => ⟨S254, .i32⟩
  | 13 => ⟨S_, .i32⟩
  | 14 => ⟨S254, .i32⟩
  | 15 => ⟨S254, .i32⟩
  | 16 => ⟨S_, .i32⟩
  | 17 => ⟨S254, .i32⟩
  | 18 => ⟨S254, .i32⟩
  | 19 => ⟨S254, .f32⟩
  | 20 => ⟨S1x254, .f32⟩
  | 21 => ⟨S4x1, .f32⟩
  | 22 => ⟨S4x254, .f32⟩
  | 23 => ⟨S4x254, .f32⟩
  | 24 => ⟨S4x254, .i1⟩
  | 25 => ⟨S1x254, .f32⟩
  | 26 => ⟨S_, .f32⟩
  | 27 => ⟨S_, .f32⟩
  | 28 => ⟨S4x254, .f32⟩
  | 29 => ⟨S4x254, .f32⟩
  | 30 => ⟨S4x254, .f32⟩
  | 31 => ⟨S_, .f32⟩
  | 32 => ⟨S4, .f32⟩
  | 33 => ⟨S_, .f32⟩
  | 34 => ⟨S4, .f32⟩
  | 35 => ⟨S4, .i1⟩
  | 36 => ⟨S_, .f32⟩
  | 37 => ⟨S4, .f32⟩
  | 38 => ⟨S4, .f32⟩
  | 39 => ⟨S_, .f32⟩
  | 40 => ⟨S_, .f32⟩
  | 41 => ⟨S4, .f32⟩
  | 42 => ⟨S4, .f32⟩
  | 43 => ⟨S4x1, .f32⟩
  | 44 => ⟨S1x4x1, .f32⟩
  | 45 => ⟨S32x4x128, .f32⟩
  | 46 => ⟨S32x4x128, .f32⟩
  | 47 => ⟨S4, .f32⟩
  | 48 => ⟨S254, .i32⟩
  | 49 => ⟨S_, .i32⟩
  | 50 => ⟨S254, .i32⟩
  | 51 => ⟨S254, .i32⟩
  | 52 => ⟨S_, .i32⟩
  | 53 => ⟨S254, .i32⟩
  | 54 => ⟨S254, .i32⟩
  | 55 => ⟨S254, .f32⟩
  | 56 => ⟨S1x254, .f32⟩
  | 57 => ⟨S4x1, .f32⟩
  | 58 => ⟨S4x254, .f32⟩
  | 59 => ⟨S4x254, .f32⟩
  | 60 => ⟨S4x254, .i1⟩
  | 61 => ⟨S1x254, .f32⟩
  | 62 => ⟨S_, .f32⟩
  | 63 => ⟨S_, .f32⟩
  | 64 => ⟨S4x254, .f32⟩
  | 65 => ⟨S4x254, .f32⟩
  | 66 => ⟨S4x254, .f32⟩
  | 67 => ⟨S_, .f32⟩
  | 68 => ⟨S4, .f32⟩
  | 69 => ⟨S_, .f32⟩
  | 70 => ⟨S4, .f32⟩
  | 71 => ⟨S4, .i1⟩
  | 72 => ⟨S_, .f32⟩
  | 73 => ⟨S4, .f32⟩
  | 74 => ⟨S4, .f32⟩
  | 75 => ⟨S_, .f32⟩
  | 76 => ⟨S_, .f32⟩
  | 77 => ⟨S4, .f32⟩
  | 78 => ⟨S4, .f32⟩
  | 79 => ⟨S4x1, .f32⟩
  | 80 => ⟨S1x4x1, .f32⟩
  | 81 => ⟨S32x4x128, .f32⟩
  | 82 => ⟨S32x4x128, .f32⟩
  | 83 => ⟨S32x4x128, .fp8e4m3⟩
  | 84 => ⟨S32x4x128, .fp8e4m3⟩
  | 85 => ⟨S32x4x128, .bf16⟩
  | 86 => ⟨S32x4x128, .bf16⟩
  | 87 => ⟨S32x32768x4x128, .bf16⟩
  | 88 => ⟨S32x32768x4x128, .bf16⟩
  | 89 => ⟨S4, .f32⟩
  | 90 => ⟨S4, .f32⟩
  | 91 => ⟨S32x4x8x128, .bf16⟩
  | 92 => ⟨S4, .bf16⟩
  | 93 => ⟨S4x1, .bf16⟩
  | 94 => ⟨S4, .bf16⟩
  | 95 => ⟨S4x1, .bf16⟩
  | 96 => ⟨S1x1x4x1, .bf16⟩
  | 97 => ⟨S32x32768x4x128, .bf16⟩
  | 98 => ⟨S32x32768x4x128, .bf16⟩
  | 99 => ⟨S1x1x4x1, .bf16⟩
  | 100 => ⟨S32x32768x4x128, .bf16⟩
  | 101 => ⟨S32x32768x4x128, .bf16⟩
  | 102 => ⟨S1x4x1, .bf16⟩
  | 103 => ⟨S32x4x128, .bf16⟩
  | 104 => ⟨S32x4x128, .bf16⟩
  | 105 => ⟨S1x4x1, .bf16⟩
  | 106 => ⟨S32x4x128, .bf16⟩
  | 107 => ⟨S32x4x128, .bf16⟩
  | 108 => ⟨S32x4x8x32768, .f32⟩
  | 109 => ⟨S_, .f32⟩
  | 110 => ⟨S32x4x8x32768, .f32⟩
  | 111 => ⟨S32x4x8x32768, .f32⟩
  | 112 => ⟨S32x4x8, .f32⟩
  | 113 => ⟨S_, .f32⟩
  | 114 => ⟨S32x4x8, .f32⟩
  | 115 => ⟨S32x4x8, .f32⟩
  | 116 => ⟨S_, .f32⟩
  | 117 => ⟨S32x4x8, .f32⟩
  | 118 => ⟨S32x4x8, .f32⟩
  | 119 => ⟨S32x4x8x1, .f32⟩
  | 120 => ⟨S32x4x8x32768, .f32⟩
  | 121 => ⟨S32x4x8x32768, .f32⟩
  | 122 => ⟨S32x4x8x32768, .f32⟩
  | 123 => ⟨S32x4x8, .f32⟩
  | 124 => ⟨S32x4x8, .f32⟩
  | 125 => ⟨S_, .f32⟩
  | 126 => ⟨S32x4x8, .f32⟩
  | 127 => ⟨S32x4x8, .f32⟩
  | _ => ⟨S32x1x4096, .bf16⟩

abbrev hbmTy0_1 (i : Nat) : BufTy := match i % 128 with
  | 0 => ⟨S32x4x8x32768, .bf16⟩
  | 1 => ⟨S32x4x8x128, .f32⟩
  | 2 => ⟨S32x4x8, .bf16⟩
  | 3 => ⟨S32x4x8, .f32⟩
  | 4 => ⟨S32x4x8x1, .f32⟩
  | 5 => ⟨S32x4x128, .f32⟩
  | 6 => ⟨S32x4x1x128, .f32⟩
  | 7 => ⟨S32x4x8x128, .f32⟩
  | 8 => ⟨S32x4x8x128, .f32⟩
  | 9 => ⟨S32x4x8x128, .f32⟩
  | 10 => ⟨S32x4x8x128, .f32⟩
  | 11 => ⟨S32x4x8x1, .f32⟩
  | 12 => ⟨S32x4x8x128, .f32⟩
  | 13 => ⟨S32x4x8x128, .f32⟩
  | 14 => ⟨S32x4x8x128, .bf16⟩
  | 15 => ⟨S32x32x128, .bf16⟩
  | 16 => ⟨S128x128, .fp8e4m3⟩
  | 17 => ⟨S128x128, .fp8e4m3⟩
  | _ => ⟨S32x1x4096, .bf16⟩

abbrev hbmTy (i : Nat) : BufTy := match i / 128 with
  | 0 => hbmTy0_0 i
  | 1 => hbmTy0_1 i
  | _ => ⟨S32x1x4096, .bf16⟩

abbrev bufTy : (tb : Table) → Fin (tcTables nBuf tb) → BufTy
  | .hbm, ⟨i, _⟩ => hbmTy i
  | .local _ .vmem, ⟨0, _⟩ => ⟨S32x4x128, .f32⟩
  | .local _ .vmem, ⟨1, _⟩ => ⟨S32x4x128, .f32⟩
  | .local _ .vmem, ⟨2, _⟩ => ⟨S32x32768x4x128, .fp8e4m3⟩
  | .local _ .vmem, ⟨3, _⟩ => ⟨S32x32768x4x128, .fp8e4m3⟩
  | .local _ .vmem, ⟨4, _⟩ => ⟨S32x4x128, .fp8e4m3⟩
  | .local _ .vmem, ⟨5, _⟩ => ⟨S32x4x128, .fp8e4m3⟩
  | .local _ .vmem, ⟨6, _⟩ => ⟨S32x4x128, .bf16⟩
  | .local _ .vmem, ⟨7, _⟩ => ⟨S32x4x128, .bf16⟩
  | .local _ .vmem, ⟨8, _⟩ => ⟨S32x32768x4x128, .bf16⟩
  | .local _ .vmem, ⟨9, _⟩ => ⟨S32x32768x4x128, .bf16⟩
  | _, _ => ⟨S32x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_call1_v0 : Ref sig .tc := ⟨.hbm, 40, rfl⟩
abbrev main_call1_v1 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_cst_10 : Ref sig .tc := ⟨.hbm, 72, rfl⟩
abbrev main_v45 : Ref sig .tc := ⟨.hbm, 73, rfl⟩
abbrev main_v46 : Ref sig .tc := ⟨.hbm, 74, rfl⟩
abbrev main_cst_11 : Ref sig .tc := ⟨.hbm, 75, rfl⟩
abbrev main_call3_v0 : Ref sig .tc := ⟨.hbm, 76, rfl⟩
abbrev main_call3_v1 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52_0 : Ref sig .tc := ⟨.hbm, 83, rfl⟩
abbrev main_v52_1 : Ref sig .tc := ⟨.hbm, 84, rfl⟩
abbrev main_v52_2 : Ref sig .tc := ⟨.hbm, 85, rfl⟩
abbrev main_v52_3 : Ref sig .tc := ⟨.hbm, 86, rfl⟩
abbrev main_v52_4 : Ref sig .tc := ⟨.hbm, 87, rfl⟩
abbrev main_v52_5 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_12 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_13 : Ref sig .tc := ⟨.hbm, 113, rfl⟩
abbrev main_v76 : Ref sig .tc := ⟨.hbm, 114, rfl⟩
abbrev main_v77 : Ref sig .tc := ⟨.hbm, 115, rfl⟩
abbrev main_cst_14 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_15 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S32x4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x32768x4x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x32768x4x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x4x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x4x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x4x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x4x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x32768x4x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x32768x4x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Body.lean ====
module

public import proofs.«01_k».proof.Proof.Gen.KernelIdeal.Frame.Runs

@[expose] public section

/-!
One step of the kernel, as functions of what it reads. The step goes over 32 chunks `c` of 512 columns; a chunk is
four groups `t` of 128 columns for each of the two halves `h` of the rows, so there are 256 tiles: tile `k` is chunk
`k / 8`, group `k / 2 % 4`, half `k % 2`.
-/

noncomputable section

namespace Cert.Body

open Idealize.ShloMosaic Cert.KernelIdeal Cert.KernelIdeal.Gen

variable {F : FTy → Type} [FloatOps F]

/-- The lane's head, `lane % 4`. -/
def cls : IVec S8x128 32 := k0_pay42

/-- In each lane, the entry of the tile of the lane's head. -/
def byClass (a b c d : FVec F S8x128 .f32) : FVec F S8x128 .f32 :=
  select (cmpi .eq cls (broadcast S8x128 0#32)) a
    (select (cmpi .eq cls (broadcast S8x128 1#32)) b
      (select (cmpi .eq cls (broadcast S8x128 2#32)) c d))

/-- A head's factor of the scores: its key scale times the factor of the softmax. -/
def factor (k : F .f32) : FVec F S8x128 .f32 :=
  broadcast S8x128 (Scalar.mulf (Scalar.extf .f32 bitsLt_bf16_f32 (Scalar.truncf .bf16 bitsLt_bf16_f32 k))
    (Scalar.ofBits .f32 0x3DB504F3#32))

/-- Each lane's factor of the scores. -/
def factors (k0 k1 k2 k3 : F .f32) : FVec F S8x128 .f32 := byClass (factor k0) (factor k1) (factor k2) (factor k3)

/-- The rows of a chunk: those of the first half beside those of the second. -/
def rows (a b : Vec F S1x512x128 .fp8e4m3) : FVec F S512x256 .fp8e4m3 :=
  concatenate S512x256 1 [⟨S512x128, shapeCast S512x128 a shapeCasts_S1x512x128_S512x128⟩,
    ⟨S512x128, shapeCast S512x128 b shapeCasts_S1x512x128_S512x128⟩] concatenates_S512x128_S512x128_S512x256_d1

/-- The products of a chunk's keys with the queries. -/
def products (q : Vec F S64x256 .bf16) (a b : Vec F S1x512x128 .fp8e4m3) : FVec F S64x512 .f32 :=
  matmul dot_S64x256_S512x256_S64x512_1_1_0_0_n_n none q (rows a b) (constant S64x512 .f32 0x00000000#32)

/-- What a step reads: the key scales, the queries, rows 512 `c` … of half `h` of the keys and of the values, and what
    the step before left of the maxima (by head), of the weights and of the weighted values. -/
structure In (F : FTy → Type) where
  k0 : F .f32
  k1 : F .f32
  k2 : F .f32
  k3 : F .f32
  q : Vec F S64x256 .bf16
  kr : ℕ → ℕ → Vec F S1x512x128 .fp8e4m3
  vr : ℕ → ℕ → Vec F S1x512x128 .fp8e4m3
  m0 : Vec F S8x128 .f32
  m1 : Vec F S8x128 .f32
  m2 : Vec F S8x128 .f32
  m3 : Vec F S8x128 .f32
  l : Vec F S8x128 .f32
  o : Vec F S64x256 .f32

theorem slices (k g : ℕ) : S64x512.Slices ![(k % 2 * 4 + g % 4) * 8, k / 2 % 4 * 128] S8x128 := by
  refine ⟨rfl, fun a => ?_⟩
  fin_cases a <;> simp [S64x512, S8x128] <;> omega

theorem inb (k : ℕ) (a) : (![k % 2 * 8, k / 2 % 128 * 128] : Fin 2 → ℕ) a + S8x128.size a ≤ S16x16384.size a := by
  fin_cases a <;> simp [S16x16384, S8x128] <;> omega

/-- The place of tile `k` among the scores kept. -/
abbrev place (k : ℕ) : Rect S16x16384 :=
  Rect.unit (s := S16x16384) ![k % 2 * 8, k / 2 % 128 * 128] S8x128.size (inb k)

variable (I : In F)

def scale : FVec F S8x128 .f32 := factors I.k0 I.k1 I.k2 I.k3

def score (c : ℕ) : FVec F S64x512 .f32 := products I.q (I.kr 0 c) (I.kr 1 c)

def part (k g : ℕ) : FVec F S8x128 .f32 := extractStridedSlice S8x128 _ (score I (k / 8)) (slices k g)

/-- Tile `k` of the scores. -/
def tile (k : ℕ) : FVec F S8x128 .f32 := mulf (byClass (part I k 0) (part I k 1) (part I k 2) (part I k 3)) (scale I)

/-- The largest of the first `k` tiles, element by element. -/
def most : ℕ → FVec F S8x128 .f32
  | 0 => broadcast S8x128 (Scalar.ofBits .f32 0xFF800000#32)
  | k + 1 => maximumf (most k) (tile I k)

/-- The stores of the first `k` tiles, the last one first. -/
def stores : ℕ → List (View.Piece (Elt F) S16x16384 .f32)
  | 0 => []
  | k + 1 => ⟨place k, shapeCast S8x128 (tile I k) shapeCasts_S8x128_S8x128⟩ :: stores k

/-- The largest of a head's lanes, against the old maximum. -/
def newTop (w : BitVec 32) (x old : FVec F S8x128 .f32) : FVec F S8x128 .f32 :=
  maximumf old (broadcastTo S8x128 (shapeCast S8x1 (shapeCast S8x1
    (multiReduction .maximumf [1] S8 (select (cmpi .eq cls (broadcast S8x128 w)) x
      (broadcast S8x128 (Scalar.ofBits .f32 0xFF800000#32))) 0xFF800000#32 reduces_S8x128_S8 (.inl rfl) rfl)
    shapeCasts_S8_S8x1) shapeCasts_S8x1_S8x1) broadcasts_S8x1_S8x128)

def top0 : FVec F S8x128 .f32 := newTop 0#32 (most I 256) I.m0
def top1 : FVec F S8x128 .f32 := newTop 1#32 (most I 256) I.m1
def top2 : FVec F S8x128 .f32 := newTop 2#32 (most I 256) I.m2
def top3 : FVec F S8x128 .f32 := newTop 3#32 (most I 256) I.m3

/-- The stores of the new maxima, the last one first. -/
def tops : List (View.Piece (Elt F) S32x128 .f32) :=
  [⟨Rect.unit ![24, 0] S8x128.size inb_S32x128_S8x128_24_0, shapeCast S8x128 (top3 I) shapeCasts_S8x128_S8x128⟩,
   ⟨Rect.unit ![16, 0] S8x128.size inb_S32x128_S8x128_16_0, shapeCast S8x128 (top2 I) shapeCasts_S8x128_S8x128⟩,
   ⟨Rect.unit ![8, 0] S8x128.size inb_S32x128_S8x128_8_0, shapeCast S8x128 (top1 I) shapeCasts_S8x128_S8x128⟩,
   ⟨Rect.unit ![0, 0] S8x128.size inb_S32x128_S8x128_0_0, shapeCast S8x128 (top0 I) shapeCasts_S8x128_S8x128⟩]

def fall0 : FVec F S8x128 .f32 := exp (subf I.m0 (top0 I))
def fall1 : FVec F S8x128 .f32 := exp (subf I.m1 (top1 I))
def fall2 : FVec F S8x128 .f32 := exp (subf I.m2 (top2 I))
def fall3 : FVec F S8x128 .f32 := exp (subf I.m3 (top3 I))

/-- Each lane's new maximum. -/
def laneTop : FVec F S8x128 .f32 := byClass (top0 I) (top1 I) (top2 I) (top3 I)

/-- Each lane's factor of what was summed up before. -/
def laneFall : FVec F S8x128 .f32 := byClass (fall0 I) (fall1 I) (fall2 I) (fall3 I)

variable (s : ℕ → Vec F S8x128 .f32)

/-- The weights of tile `k`, from the kept scores `s`. -/
def weight (k : ℕ) : FVec F S8x128 .f32 := exp (subf (s k) (laneTop I))

/-- The sum of the weights of the first `k` tiles. -/
def weights : ℕ → FVec F S8x128 .f32
  | 0 => broadcast S8x128 (Scalar.ofBits .f32 0x00000000#32)
  | k + 1 => addf (weights k) (weight I s k)

/-- A tile's weights of one head, zero in the other lanes. -/
def only (w : BitVec 32) (p : FVec F S8x128 .f32) : FVec F S8x128 .f32 :=
  select (cmpi .eq cls (broadcast S8x128 w)) p (broadcast S8x128 (Scalar.ofBits .f32 0x00000000#32))

/-- The weights of two tiles, one above the other, head by head. -/
def column (p p' : FVec F S8x128 .f32) : FVec F S64x128 .f32 :=
  concatenate S64x128 0 [⟨S8x128, only 0#32 p⟩, ⟨S8x128, only 1#32 p⟩, ⟨S8x128, only 2#32 p⟩, ⟨S8x128, only 3#32 p⟩,
    ⟨S8x128, only 0#32 p'⟩, ⟨S8x128, only 1#32 p'⟩, ⟨S8x128, only 2#32 p'⟩, ⟨S8x128, only 3#32 p'⟩]
    concatenates_S8x128_S8x128_S8x128_S8x128_S8x128_S8x128_S8x128_S8x128_S64x128_d0

/-- The weights of a chunk. -/
def full (c : ℕ) : FVec F S64x512 .bf16 :=
  truncf .bf16 (concatenate S64x512 1
    [⟨S64x128, column (weight I s (8 * c)) (weight I s (8 * c + 1))⟩,
     ⟨S64x128, column (weight I s (8 * c + 2)) (weight I s (8 * c + 3))⟩,
     ⟨S64x128, column (weight I s (8 * c + 4)) (weight I s (8 * c + 5))⟩,
     ⟨S64x128, column (weight I s (8 * c + 6)) (weight I s (8 * c + 7))⟩]
    concatenates_S64x128_S64x128_S64x128_S64x128_S64x512_d1) bitsLt_bf16_f32

/-- The weighted values of the first `c` chunks. -/
def values : ℕ → FVec F S64x256 .f32
  | 0 => broadcast S64x256 (Scalar.ofBits .f32 0x00000000#32)
  | c + 1 => addf (values c) (matmul dot_S64x512_S512x256_S64x256_1_0_0_1_n_n none (full I s c)
      (rows (I.vr 0 c) (I.vr 1 c)) (constant S64x256 .f32 0x00000000#32))

/-- The rows' factors of what was summed up before. -/
def rowFall : FVec F S64x256 .f32 :=
  let a := concatenate S64x128 0 [⟨S8x128, fall0 I⟩, ⟨S8x128, fall1 I⟩, ⟨S8x128, fall2 I⟩, ⟨S8x128, fall3 I⟩,
    ⟨S8x128, fall0 I⟩, ⟨S8x128, fall1 I⟩, ⟨S8x128, fall2 I⟩, ⟨S8x128, fall3 I⟩]
    concatenates_S8x128_S8x128_S8x128_S8x128_S8x128_S8x128_S8x128_S8x128_S64x128_d0
  concatenate S64x256 1 [⟨S64x128, a⟩, ⟨S64x128, a⟩] concatenates_S64x128_S64x128_S64x256_d1

/-- The weights after the step. -/
def newL : FVec F S8x128 .f32 :=
  shapeCast S8x128 (addf (mulf I.l (laneFall I)) (weights I s 256)) shapeCasts_S8x128_S8x128

/-- The weighted values after the step. -/
def newO : FVec F S64x256 .f32 :=
  shapeCast S64x256 (addf (mulf I.o (rowFall I)) (values I s 32)) shapeCasts_S64x256_S64x256

theorem inbRows (h c : ℕ) (a) : (![0, (h % 2 * 32 + c % 32) * 512, 0] : Fin 3 → ℕ) a + S1x512x128.size a ≤ S1x32768x128.size a := by
  fin_cases a <;> simp [S1x32768x128, S1x512x128] <;> omega

/-- What a step reads, in terms of the blocks it is given and of what the step before left. -/
def inp (x7 : Vec F S4 .f32) (x11 x12 : Vec F S1x32768x128 .fp8e4m3) (q : Vec F S64x256 .bf16) (m : Vec F S32x128 .f32)
    (l : Vec F S8x128 .f32) (o : Vec F S64x256 .f32) : In F where
  k0 := View.ld x7 (Rect.unit (s := S4) ![0] S1.size inb_S4_S1_0) (Shape.Idx.first (Nat.lt_of_lt_of_eq Nat.one_pos numel1_S1.symm))
  k1 := View.ld x7 (Rect.unit (s := S4) ![1] S1.size inb_S4_S1_1) (Shape.Idx.first (Nat.lt_of_lt_of_eq Nat.one_pos numel1_S1.symm))
  k2 := View.ld x7 (Rect.unit (s := S4) ![2] S1.size inb_S4_S1_2) (Shape.Idx.first (Nat.lt_of_lt_of_eq Nat.one_pos numel1_S1.symm))
  k3 := View.ld x7 (Rect.unit (s := S4) ![3] S1.size inb_S4_S1_3) (Shape.Idx.first (Nat.lt_of_lt_of_eq Nat.one_pos numel1_S1.symm))
  q := q
  kr h c := View.ld x11 (Rect.unit (s := S1x32768x128) ![0, (h % 2 * 32 + c % 32) * 512, 0] S1x512x128.size (inbRows h c))
  vr h c := View.ld x12 (Rect.unit (s := S1x32768x128) ![0, (h % 2 * 32 + c % 32) * 512, 0] S1x512x128.size (inbRows h c))
  m0 := View.ld m (Rect.unit (s := S32x128) ![0, 0] S8x128.size inb_S32x128_S8x128_0_0)
  m1 := View.ld m (Rect.unit (s := S32x128) ![8, 0] S8x128.size inb_S32x128_S8x128_8_0)
  m2 := View.ld m (Rect.unit (s := S32x128) ![16, 0] S8x128.size inb_S32x128_S8x128_16_0)
  m3 := View.ld m (Rect.unit (s := S32x128) ![24, 0] S8x128.size inb_S32x128_S8x128_24_0)
  l := l
  o := o

/-- The same, as the program reads it. -/
def reads (arg9 : Memref sig .tc .smem S4 .f32) (harg9 : arg9.IsWhole)
    (arg13 : Memref sig .tc .vmem S1x32768x128 .fp8e4m3) (harg13 : arg13.IsWhole)
    (arg14 : Memref sig .tc .vmem S1x32768x128 .fp8e4m3) (harg14 : arg14.IsWhole) (x7 : Vec F S4 .f32)
    (x11 x12 : Vec F S1x32768x128 .fp8e4m3) (q : Vec F S64x256 .bf16) (m0 m1 m2 m3 l : Vec F S8x128 .f32)
    (o : Vec F S64x256 .f32) : In F where
  k0 := View.readAt (Elt F) arg9.view (Rect.unit (s := S4) ![0] S1.size inb_S4_S1_0).toLoadRect (harg9.unread x7) (Shape.Idx.first (Nat.lt_of_lt_of_eq Nat.one_pos numel1_S1.symm))
  k1 := View.readAt (Elt F) arg9.view (Rect.unit (s := S4) ![1] S1.size inb_S4_S1_1).toLoadRect (harg9.unread x7) (Shape.Idx.first (Nat.lt_of_lt_of_eq Nat.one_pos numel1_S1.symm))
  k2 := View.readAt (Elt F) arg9.view (Rect.unit (s := S4) ![2] S1.size inb_S4_S1_2).toLoadRect (harg9.unread x7) (Shape.Idx.first (Nat.lt_of_lt_of_eq Nat.one_pos numel1_S1.symm))
  k3 := View.readAt (Elt F) arg9.view (Rect.unit (s := S4) ![3] S1.size inb_S4_S1_3).toLoadRect (harg9.unread x7) (Shape.Idx.first (Nat.lt_of_lt_of_eq Nat.one_pos numel1_S1.symm))
  q := q
  kr h c := View.readAt (Elt F) arg13.view
    (Rect.unit (s := S1x32768x128) ![0, (h % 2 * 32 + c % 32) * 512, 0] S1x512x128.size (inbRows h c)).toLoadRect (harg13.unread x11)
  vr h c := View.readAt (Elt F) arg14.view
    (Rect.unit (s := S1x32768x128) ![0, (h % 2 * 32 + c % 32) * 512, 0] S1x512x128.size (inbRows h c)).toLoadRect (harg14.unread x12)
  m0 := m0
  m1 := m1
  m2 := m2
  m3 := m3
  l := l
  o := o

/-- The kept scores, as the second pass reads them. -/
def kept (arg19 : Memref sig .tc .vmem S16x16384 .f32) (I : In F) (k : ℕ) : Vec F S8x128 .f32 :=
  View.readCov arg19.view (stores I 256) (place k).toLoadRect

/-- The inverse of the scale of bits `w`, as the power of two its exponent gives. -/
def inverse (w : BitVec 32) : F .f32 :=
  Scalar.ofBits .f32 (Scalar.select
    (Scalar.ori (Scalar.cmpi .eq (Scalar.andi (Scalar.shrsi w 23#32) 255#32) 0#32)
      (Scalar.cmpi .eq (Scalar.andi (Scalar.shrsi w 23#32) 255#32) 255#32))
    1073741824#32 (Scalar.shli (Scalar.subi 254#32 (Scalar.andi (Scalar.shrsi w 23#32) 255#32)) 23#32))

/-- A new row, quantised by the inverse of one scale and multiplied by another. -/
def again (x : Vec F S1x1x128 .bf16) (k : F .f32) (w : BitVec 32) : FVec F S1x128 .bf16 :=
  mulf (extf .bf16 (truncf .fp8e4m3 (minimumf (broadcast S1x128 (Scalar.ofBits .f32 0x43E00000#32))
    (maximumf (broadcast S1x128 (Scalar.ofBits .f32 0xC3E00000#32))
      (mulf (extf .f32 (shapeCast S1x128 x shapeCasts_S1x1x128_S1x128) bitsLt_bf16_f32) (broadcast S1x128 (inverse w)))))
    bitsLt_fp8e4m3_f32) bitsLt_fp8e4m3_bf16) (broadcast S1x128 (Scalar.truncf .bf16 bitsLt_bf16_f32 k))

/-- The score of the new token. -/
def lastScore (qr : Vec F S1x8x128 .bf16) (kn : Vec F S1x1x128 .bf16) (k : F .f32) (w : BitVec 32) : FVec F S8x128 .f32 :=
  broadcastTo S8x128 (shapeCast S8x1 (mulf (shapeCast S8x1 (multiReduction .add [1] S8
    (mulf (extf .f32 (shapeCast S8x128 qr shapeCasts_S1x8x128_S8x128) bitsLt_bf16_f32)
      (broadcastTo S8x128 (extf .f32 (again kn k w) bitsLt_bf16_f32) broadcasts_S1x128_S8x128))
    0x00000000#32 reduces_S8x128_S8 (.inl rfl) rfl) shapeCasts_S8_S8x1) (broadcast S8x1 (Scalar.ofBits .f32 0x3DB504F3#32)))
    shapeCasts_S8x1_S8x1) broadcasts_S8x1_S8x128

/-- The sum of a head's lanes. -/
def lanes (w : BitVec 32) (l : FVec F S8x128 .f32) : FVec F S8x128 .f32 :=
  broadcastTo S8x128 (shapeCast S8x1 (shapeCast S8x1 (multiReduction .add [1] S8 (only w l) 0x00000000#32
    reduces_S8x128_S8 (.inl rfl) rfl) shapeCasts_S8_S8x1) shapeCasts_S8x1_S8x1) broadcasts_S8x1_S8x128

/-- The result of a head: what was summed up of the cached tokens, joined with the new token. -/
def answer (h : BitVec 32) (qr : Vec F S1x8x128 .bf16) (kn vn : Vec F S1x1x128 .bf16) (k v : F .f32) (kw vw : BitVec 32)
    (l m oa ob : Vec F S8x128 .f32) : FVec F S1x8x128 .bf16 :=
  let s := lastScore qr kn k kw
  let n := maximumf m s
  let a := exp (subf m n)
  let p := exp (subf s n)
  shapeCast S1x8x128 (truncf .bf16 (divf
    (addf (mulf (mulf (addf oa ob) (broadcast S8x128 (Scalar.extf .f32 bitsLt_bf16_f32 (Scalar.truncf .bf16 bitsLt_bf16_f32 v)))) a)
      (mulf (extf .f32 (truncf .bf16 p bitsLt_bf16_f32) bitsLt_bf16_f32)
        (broadcastTo S8x128 (extf .f32 (again vn v vw) bitsLt_bf16_f32) broadcasts_S1x128_S8x128)))
    (addf (mulf (lanes h l) a) p)) bitsLt_bf16_f32) shapeCasts_S8x128_S1x8x128

/-- The four heads' results, from what the step leaves. -/
def answers (x0 : Vec F S1x32x128 .bf16) (x1 x2 : Vec F S1x4x128 .bf16) (x7 x8 : Vec F S4 .f32) (x9 x10 : Vec F S4 .i32)
    (m : Vec F S32x128 .f32) (l : Vec F S8x128 .f32) (o : Vec F S64x256 .f32) : List (View.Piece (Elt F) S1x32x128 .bf16) :=
  [⟨Rect.unit (s := S1x32x128) ![0, 24, 0] S1x8x128.size inb_S1x32x128_S1x8x128_0_24_0, answer 3#32
      (View.ld x0 (Rect.unit (s := S1x32x128) ![0, 24, 0] S1x8x128.size inb_S1x32x128_S1x8x128_0_24_0))
      (View.ld x1 (Rect.unit (s := S1x4x128) ![0, 3, 0] S1x1x128.size inb_S1x4x128_S1x1x128_0_3_0))
      (View.ld x2 (Rect.unit (s := S1x4x128) ![0, 3, 0] S1x1x128.size inb_S1x4x128_S1x1x128_0_3_0))
      (View.ld x7 (Rect.unit (s := S4) ![3] S1.size inb_S4_S1_3) (Shape.Idx.first (Nat.lt_of_lt_of_eq Nat.one_pos numel1_S1.symm)))
      (View.ld x8 (Rect.unit (s := S4) ![3] S1.size inb_S4_S1_3) (Shape.Idx.first (Nat.lt_of_lt_of_eq Nat.one_pos numel1_S1.symm)))
      (View.ld x9 (Rect.unit (s := S4) ![3] S1.size inb_S4_S1_3) (Shape.Idx.first (Nat.lt_of_lt_of_eq Nat.one_pos numel1_S1.symm)))
      (View.ld x10 (Rect.unit (s := S4) ![3] S1.size inb_S4_S1_3) (Shape.Idx.first (Nat.lt_of_lt_of_eq Nat.one_pos numel1_S1.symm)))
      l (View.ld m (Rect.unit (s := S32x128) ![24, 0] S8x128.size inb_S32x128_S8x128_24_0))
      (View.ld o (Rect.unit (s := S64x256) ![24, 0] S8x128.size inb_S64x256_S8x128_24_0))
      (View.ld o (Rect.unit (s := S64x256) ![56, 128] S8x128.size inb_S64x256_S8x128_56_128))⟩,
   ⟨Rect.unit (s := S1x32x128) ![0, 16, 0] S1x8x128.size inb_S1x32x128_S1x8x128_0_16_0, answer 2#32
      (View.ld x0 (Rect.unit (s := S1x32x128) ![0, 16, 0] S1x8x128.size inb_S1x32x128_S1x8x128_0_16_0))
      (View.ld x1 (Rect.unit (s := S1x4x128) ![0, 2, 0] S1x1x128.size inb_S1x4x128_S1x1x128_0_2_0))
      (View.ld x2 (Rect.unit (s := S1x4x128) ![0, 2, 0] S1x1x128.size inb_S1x4x128_S1x1x128_0_2_0))
      (View.ld x7 (Rect.unit (s := S4) ![2] S1.size inb_S4_S1_2) (Shape.Idx.first (Nat.lt_of_lt_of_eq Nat.one_pos numel1_S1.symm)))
      (View.ld x8 (Rect.unit (s := S4) ![2] S1.size inb_S4_S1_2) (Shape.Idx.first (Nat.lt_of_lt_of_eq Nat.one_pos numel1_S1.symm)))
      (View.ld x9 (Rect.unit (s := S4) ![2] S1.size inb_S4_S1_2) (Shape.Idx.first (Nat.lt_of_lt_of_eq Nat.one_pos numel1_S1.symm)))
      (View.ld x10 (Rect.unit (s := S4) ![2] S1.size inb_S4_S1_2) (Shape.Idx.first (Nat.lt_of_lt_of_eq Nat.one_pos numel1_S1.symm)))
      l (View.ld m (Rect.unit (s := S32x128) ![16, 0] S8x128.size inb_S32x128_S8x128_16_0))
      (View.ld o (Rect.unit (s := S64x256) ![16, 0] S8x128.size inb_S64x256_S8x128_16_0))
      (View.ld o (Rect.unit (s := S64x256) ![48, 128] S8x128.size inb_S64x256_S8x128_48_128))⟩,
   ⟨Rect.unit (s := S1x32x128) ![0, 8, 0] S1x8x128.size inb_S1x32x128_S1x8x128_0_8_0, answer 1#32
      (View.ld x0 (Rect.unit (s := S1x32x128) ![0, 8, 0] S1x8x128.size inb_S1x32x128_S1x8x128_0_8_0))
      (View.ld x1 (Rect.unit (s := S1x4x128) ![0, 1, 0] S1x1x128.size inb_S1x4x128_S1x1x128_0_1_0))
      (View.ld x2 (Rect.unit (s := S1x4x128) ![0, 1, 0] S1x1x128.size inb_S1x4x128_S1x1x128_0_1_0))
      (View.ld x7 (Rect.unit (s := S4) ![1] S1.size inb_S4_S1_1) (Shape.Idx.first (Nat.lt_of_lt_of_eq Nat.one_pos numel1_S1.symm)))
      (View.ld x8 (Rect.unit (s := S4) ![1] S1.size inb_S4_S1_1) (Shape.Idx.first (Nat.lt_of_lt_of_eq Nat.one_pos numel1_S1.symm)))
      (View.ld x9 (Rect.unit (s := S4) ![1] S1.size inb_S4_S1_1) (Shape.Idx.first (Nat.lt_of_lt_of_eq Nat.one_pos numel1_S1.symm)))
      (View.ld x10 (Rect.unit (s := S4) ![1] S1.size inb_S4_S1_1) (Shape.Idx.first (Nat.lt_of_lt_of_eq Nat.one_pos numel1_S1.symm)))
      l (View.ld m (Rect.unit (s := S32x128) ![8, 0] S8x128.size inb_S32x128_S8x128_8_0))
      (View.ld o (Rect.unit (s := S64x256) ![8, 0] S8x128.size inb_S64x256_S8x128_8_0))
      (View.ld o (Rect.unit (s := S64x256) ![40, 128] S8x128.size inb_S64x256_S8x128_40_128))⟩,
   ⟨Rect.unit (s := S1x32x128) ![0, 0, 0] S1x8x128.size inb_S1x32x128_S1x8x128_0_0_0, answer 0#32
      (View.ld x0 (Rect.unit (s := S1x32x128) ![0, 0, 0] S1x8x128.size inb_S1x32x128_S1x8x128_0_0_0))
      (View.ld x1 (Rect.unit (s := S1x4x128) ![0, 0, 0] S1x1x128.size inb_S1x4x128_S1x1x128_0_0_0))
      (View.ld x2 (Rect.unit (s := S1x4x128) ![0, 0, 0] S1x1x128.size inb_S1x4x128_S1x1x128_0_0_0))
      (View.ld x7 (Rect.unit (s := S4) ![0] S1.size inb_S4_S1_0) (Shape.Idx.first (Nat.lt_of_lt_of_eq Nat.one_pos numel1_S1.symm)))
      (View.ld x8 (Rect.unit (s := S4) ![0] S1.size inb_S4_S1_0) (Shape.Idx.first (Nat.lt_of_lt_of_eq Nat.one_pos numel1_S1.symm)))
      (View.ld x9 (Rect.unit (s := S4) ![0] S1.size inb_S4_S1_0) (Shape.Idx.first (Nat.lt_of_lt_of_eq Nat.one_pos numel1_S1.symm)))
      (View.ld x10 (Rect.unit (s := S4) ![0] S1.size inb_S4_S1_0) (Shape.Idx.first (Nat.lt_of_lt_of_eq Nat.one_pos numel1_S1.symm)))
      l (View.ld m (Rect.unit (s := S32x128) ![0, 0] S8x128.size inb_S32x128_S8x128_0_0))
      (View.ld o (Rect.unit (s := S64x256) ![0, 0] S8x128.size inb_S64x256_S8x128_0_0))
      (View.ld o (Rect.unit (s := S64x256) ![32, 128] S8x128.size inb_S64x256_S8x128_32_128))⟩]

end Cert.Body
-- ==== Proof.BodyA.lean ====
module

public import proofs.«01_k».proof.Proof.Body
public import proofs.«01_k».proof.Proof.Gen.KernelIdeal.Frame
public import Idealize.ShloMosaic.Lib.Pipeline.ValueKit.Point
public import Idealize.ShloMosaic.Lib.Pipeline.ReadBack

@[expose] public section

set_option maxRecDepth 65536

/-! What the first step of a batch leaves, in the terms of `Body`. -/

noncomputable section

namespace Cert.Body.A

open Idealize.ShloMosaic Idealize.ShloMosaic.TcCoe Cert.KernelIdeal Cert.KernelIdeal.Gen
open Idealize.SL.Sem

variable {F : FTy → Type} [FloatOps F]

variable (c : Dev nD) (i : grid0.Coords) (arg2 : Memref sig .tc .vmem S1x32x128 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x1 .i32) (harg7 : arg7.IsWhole) (arg8 : Memref sig .tc .vmem S128x1 .i32) (harg8 : arg8.IsWhole) (arg9 : Memref sig .tc .smem S4 .f32) (harg9 : arg9.IsWhole) (arg10 : Memref sig .tc .smem S4 .f32) (harg10 : arg10.IsWhole) (arg11 : Memref sig .tc .smem S4 .i32) (harg11 : arg11.IsWhole) (arg12 : Memref sig .tc .smem S4 .i32) (harg12 : arg12.IsWhole) (arg13 : Memref sig .tc .vmem S1x32768x128 .fp8e4m3) (harg13 : arg13.IsWhole) (arg14 : Memref sig .tc .vmem S1x32768x128 .fp8e4m3) (harg14 : arg14.IsWhole) (arg15 : Memref sig .tc .vmem S1x32x128 .bf16) (harg15 : arg15.IsWhole) (arg16 : Memref sig .tc .vmem S128x128 .fp8e4m3) (harg16 : arg16.IsWhole) (arg17 : Memref sig .tc .vmem S128x128 .fp8e4m3) (harg17 : arg17.IsWhole) (arg18 : Memref sig .tc .vmem S64x256 .bf16) (harg18 : arg18.IsWhole) (arg19 : Memref sig .tc .vmem S16x16384 .f32) (harg19 : arg19.IsWhole) (arg20 : Memref sig .tc .vmem S32x128 .f32) (harg20 : arg20.IsWhole) (arg21 : Memref sig .tc .vmem S8x128 .f32) (harg21 : arg21.IsWhole) (arg22 : Memref sig .tc .vmem S64x256 .f32) (harg22 : arg22.IsWhole) (hc0 : ¬cond0_0 i) (hc1 : cond0_1 i) (hc2 : ¬cond0_2 i)
    (x0 : Vec F S1x32x128 .bf16) (x1 : Vec F S1x4x128 .bf16) (x2 : Vec F S1x4x128 .bf16) (x3 : Vec F S128x128 .bf16) (x4 : Vec F S128x128 .bf16) (x5 : Vec F S128x1 .i32) (x6 : Vec F S128x1 .i32) (x7 : Vec F S4 .f32) (x8 : Vec F S4 .f32) (x9 : Vec F S4 .i32) (x10 : Vec F S4 .i32) (x11 : Vec F S1x32768x128 .fp8e4m3) (x12 : Vec F S1x32768x128 .fp8e4m3)

/-- What the step reads, as the program reads it. -/
abbrev rawIn : In F := reads arg9 harg9 arg13 harg13 arg14 harg14 x7 x11 x12
  (kernelRun0_A.sl.v54 c arg2 harg2 arg18 x0)
  (kernelRun0_A.sl.v4862 c arg20)
  (kernelRun0_A.sl.v4877 c arg2 harg2 arg9 harg9 arg13 harg13 arg18 arg20 x0 x7 x11)
  (kernelRun0_A.sl.v4892 c arg2 harg2 arg9 harg9 arg13 harg13 arg18 arg20 x0 x7 x11)
  (kernelRun0_A.sl.v4907 c arg2 harg2 arg9 harg9 arg13 harg13 arg18 arg20 x0 x7 x11)
  (kernelRun0_A.sl.v9457 c arg21)
  (kernelRun0_A.sl.v9451 c arg22)

/-- The first maxima read are those the step starts from. -/
theorem rawIn_eq : (rawIn c arg2 harg2 arg9 harg9 arg13 harg13 arg14 harg14 arg18 arg20 arg21 arg22 x0 x7 x11 x12) = inp x7 x11 x12 (k0_pay44 x0) k0_pay45 k0_pay46 k0_pay47 := by
  have z : (![0, 0] : Fin 2 → ℕ) = fun _ => 0 := by
    funext a
    fin_cases a <;> rfl
  have z3 : (![0, 0, 0] : Fin 3 → ℕ) = fun _ => 0 := by
    funext a
    fin_cases a <;> rfl
  unfold rawIn kernelRun0_A.sl.v54 kernelRun0_A.sl.v4862 kernelRun0_A.sl.v4877 kernelRun0_A.sl.v4892 kernelRun0_A.sl.v4907
    kernelRun0_A.sl.v9457 kernelRun0_A.sl.v9451
  unfold kernelRun0_A.sl.HS2_4 kernelRun0_A.sl.HS2_3 kernelRun0_A.sl.HS2_2 kernelRun0_A.sl.HS2_1 kernelRun0_A.sl.HS3_1
    kernelRun0_A.sl.HS4_1 kernelRun0_A.sl.HS0_1
  simp (disch := decide) only [↓ View.readCov_skip, ↓ View.readCov_cons_toLoadRect, ↓ View.readCov_fill]
  simp only [reads, inp, View.readAt_eq_ld, Memref.IsWhole.read_unread]
  congr 1
  exact congrArg k0_pay44 (View.ld_unit_zero z3 _ _)

attribute [local irreducible] View.readAt View.readCov extractStridedSlice concatenate select shapeCast mulf addf subf divf
  maximumf minimumf exp broadcast broadcastTo multiReduction cmpi truncf extf Scalar.mulf Scalar.extf Scalar.truncf

set_option maxHeartbeats 0 in
theorem run2 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12).2.2.2.2.1 = tops (rawIn c arg2 harg2 arg9 harg9 arg13 harg13 arg14 harg14 arg18 arg20 arg21 arg22 x0 x7 x11 x12) ++ [⟨Rect.unit (s := S32x128) ![0, 0] S32x128.size inb_S32x128_S32x128_0_0, k0_pay45⟩] := rfl

set_option maxHeartbeats 0 in
theorem run3 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12).2.2.2.2.2.1
    = [⟨Rect.unit (s := S8x128) ![0, 0] S8x128.size inb_S8x128_S8x128_0_0, newL (rawIn c arg2 harg2 arg9 harg9 arg13 harg13 arg14 harg14 arg18 arg20 arg21 arg22 x0 x7 x11 x12) (kept arg19 (rawIn c arg2 harg2 arg9 harg9 arg13 harg13 arg14 harg14 arg18 arg20 arg21 arg22 x0 x7 x11 x12))⟩,
       ⟨Rect.unit (s := S8x128) ![0, 0] S8x128.size inb_S8x128_S8x128_0_0, k0_pay46⟩] := rfl

set_option maxHeartbeats 0 in
theorem run4 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12).2.2.2.2.2.2.1
    = [⟨Rect.unit (s := S64x256) ![0, 0] S64x256.size inb_S64x256_S64x256_0_0, newO (rawIn c arg2 harg2 arg9 harg9 arg13 harg13 arg14 harg14 arg18 arg20 arg21 arg22 x0 x7 x11 x12) (kept arg19 (rawIn c arg2 harg2 arg9 harg9 arg13 harg13 arg14 harg14 arg18 arg20 arg21 arg22 x0 x7 x11 x12))⟩,
       ⟨Rect.unit (s := S64x256) ![0, 0] S64x256.size inb_S64x256_S64x256_0_0, k0_pay47⟩] := rfl

set_option maxHeartbeats 0 in
theorem run0 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12).2.2.2.1
    = [⟨Rect.unit (s := S64x256) ![0, 0] S64x256.size inb_S64x256_S64x256_0_0, k0_pay44 (View.readAt (Elt F) arg2.view
      (Rect.unit (s := S1x32x128) ![0, 0, 0] S1x32x128.size inb_S1x32x128_S1x32x128_0_0_0).toLoadRect (harg2.unread x0))⟩] := rfl

end Cert.Body.A
-- ==== Proof.Kept.lean ====
module

public import proofs.«01_k».proof.Proof.Body
public import Idealize.ShloMosaic.Lib.Pipeline.ValueKit.Point

@[expose] public section

set_option maxRecDepth 65536

/-! The second pass reads each tile of scores as the first pass stored it. -/

noncomputable section

namespace Cert.Body

open Idealize.ShloMosaic Cert.KernelIdeal Cert.KernelIdeal.Gen

variable {F : FTy → Type} [FloatOps F] (I : In F)

theorem weights_congr {s s' : ℕ → Vec F S8x128 .f32} (n : ℕ) (h : ∀ k < n, s k = s' k) : weights I s n = weights I s' n := by
  induction n with
  | zero => rfl
  | succ n ih =>
    simp only [weights, weight, ih fun k hk => h k (by omega), h n (by omega)]

theorem values_congr {s s' : ℕ → Vec F S8x128 .f32} (n : ℕ) (h : ∀ k < 8 * n, s k = s' k) : values I s n = values I s' n := by
  induction n with
  | zero => rfl
  | succ n ih =>
    have w : ∀ k < 8 * (n + 1), weight I s k = weight I s' k := fun k hk => congrArg (fun x => exp (subf x (laneTop I))) (h k hk)
    have g : ∀ a b c d a' b' c' d' : FVec F S64x128 .f32, a = a' → b = b' → c = c' → d = d' →
        (truncf .bf16 (concatenate S64x512 1 [⟨S64x128, a⟩, ⟨S64x128, b⟩, ⟨S64x128, c⟩, ⟨S64x128, d⟩]
          concatenates_S64x128_S64x128_S64x128_S64x128_S64x512_d1) bitsLt_bf16_f32 : FVec F S64x512 .bf16)
        = truncf .bf16 (concatenate S64x512 1 [⟨S64x128, a'⟩, ⟨S64x128, b'⟩, ⟨S64x128, c'⟩, ⟨S64x128, d'⟩]
          concatenates_S64x128_S64x128_S64x128_S64x128_S64x512_d1) bitsLt_bf16_f32 := by
      rintro _ _ _ _ _ _ _ _ rfl rfl rfl rfl
      rfl
    have hf : full I s n = full I s' n :=
      g _ _ _ _ _ _ _ _ (congrArg₂ column (w _ (by omega)) (w _ (by omega))) (congrArg₂ column (w _ (by omega)) (w _ (by omega)))
        (congrArg₂ column (w _ (by omega)) (w _ (by omega))) (congrArg₂ column (w _ (by omega)) (w _ (by omega)))
    simp only [values, ih fun k hk => h k (by omega), hf]

theorem place_disjoint {j k : ℕ} (hj : j < 256) (hk : k < 256) (h : j ≠ k) : Disjoint (place j).set (place k).set := by
  by_cases h2 : j % 2 = k % 2
  · refine Rect.unit_disjoint (1 : Fin 2) ?_
    simp [S8x128]
    omega
  · refine Rect.unit_disjoint (0 : Fin 2) ?_
    simp [S8x128]
    omega

/-- A load beside the last store reads the earlier stores. -/
theorem beside {S : Shape} {e : EltTy} (v : View sig .tc .vmem S e) (r r' : Rect S) (w : r.shape.Idx → Elt F e)
    (L : List (View.Piece (Elt F) S e)) (h : Disjoint r.set r'.set) :
    v.readCov (⟨r, w⟩ :: L) r'.toLoadRect = v.readCov L r'.toLoadRect := by
  rw [View.readCov_eq_canon', View.readCov_eq_canon']
  funext j
  exact View.canon_cons_of_not_mem ⟨r, w⟩ L (Finset.disjoint_right.mp h (r'.idx_mem j))

theorem kept_eq (arg19 : Memref sig .tc .vmem S16x16384 .f32) {k : ℕ} (hk : k < 256) : kept arg19 I k = tile I k := by
  have : ∀ n, k < n → n ≤ 256 → View.readCov arg19.view (stores I n) (place k).toLoadRect = tile I k := by
    intro n
    induction n with
    | zero => intro h; omega
    | succ n ih =>
      intro h hn
      rw [stores]
      by_cases e : n = k
      · subst e
        rw [View.readCov_cons_toLoadRect, shapeCast_self]
      · rw [beside arg19.view _ _ _ _ (place_disjoint (by omega) hk e)]
        exact ih (by omega) (by omega)
  exact this 256 hk le_rfl

theorem newL_kept (arg19 : Memref sig .tc .vmem S16x16384 .f32) : newL I (kept arg19 I) = newL I (tile I) := by
  unfold newL
  rw [weights_congr I 256 fun k hk => kept_eq I arg19 hk]

theorem newO_kept (arg19 : Memref sig .tc .vmem S16x16384 .f32) : newO I (kept arg19 I) = newO I (tile I) := by
  unfold newO
  rw [values_congr I 32 fun k hk => kept_eq I arg19 (by omega)]

end Cert.Body
-- ==== Proof.StepA.lean ====
/- What the step of case A leaves in each buffer, as functions of the blocks it is given. -/
module

public import proofs.«01_k».proof.Proof.BodyA
public import proofs.«01_k».proof.Proof.Kept
public import Idealize.ShloMosaic.Lib.Pipeline.ValueKit.Point

@[expose] public section

set_option maxRecDepth 65536

noncomputable section

namespace Cert.Body.A

open Idealize.ShloMosaic Idealize.ShloMosaic.TcCoe Cert.KernelIdeal Cert.KernelIdeal.Gen
open Idealize.SL.Sem

variable {F : FTy → Type} [FloatOps F]

variable (c : Dev nD) (i : grid0.Coords) (arg2 : Memref sig .tc .vmem S1x32x128 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x1 .i32) (harg7 : arg7.IsWhole) (arg8 : Memref sig .tc .vmem S128x1 .i32) (harg8 : arg8.IsWhole) (arg9 : Memref sig .tc .smem S4 .f32) (harg9 : arg9.IsWhole) (arg10 : Memref sig .tc .smem S4 .f32) (harg10 : arg10.IsWhole) (arg11 : Memref sig .tc .smem S4 .i32) (harg11 : arg11.IsWhole) (arg12 : Memref sig .tc .smem S4 .i32) (harg12 : arg12.IsWhole) (arg13 : Memref sig .tc .vmem S1x32768x128 .fp8e4m3) (harg13 : arg13.IsWhole) (arg14 : Memref sig .tc .vmem S1x32768x128 .fp8e4m3) (harg14 : arg14.IsWhole) (arg15 : Memref sig .tc .vmem S1x32x128 .bf16) (harg15 : arg15.IsWhole) (arg16 : Memref sig .tc .vmem S128x128 .fp8e4m3) (harg16 : arg16.IsWhole) (arg17 : Memref sig .tc .vmem S128x128 .fp8e4m3) (harg17 : arg17.IsWhole) (arg18 : Memref sig .tc .vmem S64x256 .bf16) (harg18 : arg18.IsWhole) (arg19 : Memref sig .tc .vmem S16x16384 .f32) (harg19 : arg19.IsWhole) (arg20 : Memref sig .tc .vmem S32x128 .f32) (harg20 : arg20.IsWhole) (arg21 : Memref sig .tc .vmem S8x128 .f32) (harg21 : arg21.IsWhole) (arg22 : Memref sig .tc .vmem S64x256 .f32) (harg22 : arg22.IsWhole) (hc0 : ¬cond0_0 i) (hc1 : cond0_1 i) (hc2 : ¬cond0_2 i)
    (x0 : Vec F S1x32x128 .bf16) (x1 : Vec F S1x4x128 .bf16) (x2 : Vec F S1x4x128 .bf16) (x3 : Vec F S128x128 .bf16) (x4 : Vec F S128x128 .bf16) (x5 : Vec F S128x1 .i32) (x6 : Vec F S128x1 .i32) (x7 : Vec F S4 .f32) (x8 : Vec F S4 .f32) (x9 : Vec F S4 .i32) (x10 : Vec F S4 .i32) (x11 : Vec F S1x32768x128 .fp8e4m3) (x12 : Vec F S1x32768x128 .fp8e4m3)

theorem zeros2 : (![0, 0] : Fin 2 → ℕ) = fun _ => 0 := by
  funext a
  fin_cases a <;> rfl

theorem zeros3 : (![0, 0, 0] : Fin 3 → ℕ) = fun _ => 0 := by
  funext a
  fin_cases a <;> rfl

/-- The queries it lays out. -/
theorem queries : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 = k0_pay44 x0 := by
  unfold sout0_A_0
  rw [View.read_writes_junk_eq_canon, run0, View.canon_unit_zero zeros2, View.readAt_eq_ld, Memref.IsWhole.read_unread]
  exact congrArg k0_pay44 (View.ld_unit_zero zeros3 _ _)

/-- The maxima. -/
theorem maxima : sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 = View.canon (tops (inp x7 x11 x12 (k0_pay44 x0) k0_pay45 k0_pay46 k0_pay47) ++ [⟨Rect.unit (s := S32x128) ![0, 0] S32x128.size inb_S32x128_S32x128_0_0, k0_pay45⟩]) := by
  unfold sout0_A_2
  rw [View.read_writes_junk_eq_canon, run2, rawIn_eq]

/-- The sums of the weights. -/
theorem sums : sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 = newL (inp x7 x11 x12 (k0_pay44 x0) k0_pay45 k0_pay46 k0_pay47) (tile (inp x7 x11 x12 (k0_pay44 x0) k0_pay45 k0_pay46 k0_pay47)) := by
  unfold sout0_A_3
  rw [View.read_writes_junk_eq_canon, run3, View.canon_cons_unit_zero zeros2, newL_kept, rawIn_eq]

/-- The weighted values. -/
theorem outs : sout0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 = newO (inp x7 x11 x12 (k0_pay44 x0) k0_pay45 k0_pay46 k0_pay47) (tile (inp x7 x11 x12 (k0_pay44 x0) k0_pay45 k0_pay46 k0_pay47)) := by
  unfold sout0_A_4
  rw [View.read_writes_junk_eq_canon, run4, View.canon_cons_unit_zero zeros2, newO_kept, rawIn_eq]

end Cert.Body.A

end
-- ==== Proof.BodyB.lean ====
module

public import proofs.«01_k».proof.Proof.Body
public import proofs.«01_k».proof.Proof.Gen.KernelIdeal.Frame
public import Idealize.ShloMosaic.Lib.Pipeline.ValueKit.Point

@[expose] public section

set_option maxRecDepth 65536

/-! What a middle step of a batch leaves, in the terms of `Body`. -/

noncomputable section

namespace Cert.Body.B

open Idealize.ShloMosaic Idealize.ShloMosaic.TcCoe Cert.KernelIdeal Cert.KernelIdeal.Gen
open Idealize.SL.Sem

variable {F : FTy → Type} [FloatOps F]

variable (c : Dev nD) (i : grid0.Coords) (arg2 : Memref sig .tc .vmem S1x32x128 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x1 .i32) (harg7 : arg7.IsWhole) (arg8 : Memref sig .tc .vmem S128x1 .i32) (harg8 : arg8.IsWhole) (arg9 : Memref sig .tc .smem S4 .f32) (harg9 : arg9.IsWhole) (arg10 : Memref sig .tc .smem S4 .f32) (harg10 : arg10.IsWhole) (arg11 : Memref sig .tc .smem S4 .i32) (harg11 : arg11.IsWhole) (arg12 : Memref sig .tc .smem S4 .i32) (harg12 : arg12.IsWhole) (arg13 : Memref sig .tc .vmem S1x32768x128 .fp8e4m3) (harg13 : arg13.IsWhole) (arg14 : Memref sig .tc .vmem S1x32768x128 .fp8e4m3) (harg14 : arg14.IsWhole) (arg15 : Memref sig .tc .vmem S1x32x128 .bf16) (harg15 : arg15.IsWhole) (arg16 : Memref sig .tc .vmem S128x128 .fp8e4m3) (harg16 : arg16.IsWhole) (arg17 : Memref sig .tc .vmem S128x128 .fp8e4m3) (harg17 : arg17.IsWhole) (arg18 : Memref sig .tc .vmem S64x256 .bf16) (harg18 : arg18.IsWhole) (arg19 : Memref sig .tc .vmem S16x16384 .f32) (harg19 : arg19.IsWhole) (arg20 : Memref sig .tc .vmem S32x128 .f32) (harg20 : arg20.IsWhole) (arg21 : Memref sig .tc .vmem S8x128 .f32) (harg21 : arg21.IsWhole) (arg22 : Memref sig .tc .vmem S64x256 .f32) (harg22 : arg22.IsWhole) (hc0 : ¬cond0_0 i) (hc1 : ¬cond0_1 i) (hc2 : ¬cond0_2 i)
    (x0 : Vec F S1x32x128 .bf16) (x1 : Vec F S1x4x128 .bf16) (x2 : Vec F S1x4x128 .bf16) (x3 : Vec F S128x128 .bf16) (x4 : Vec F S128x128 .bf16) (x5 : Vec F S128x1 .i32) (x6 : Vec F S128x1 .i32) (x7 : Vec F S4 .f32) (x8 : Vec F S4 .f32) (x9 : Vec F S4 .i32) (x10 : Vec F S4 .i32) (x11 : Vec F S1x32768x128 .fp8e4m3) (x12 : Vec F S1x32768x128 .fp8e4m3) (xs0 : Vec F S64x256 .bf16) (xs2 : Vec F S32x128 .f32) (xs3 : Vec F S8x128 .f32) (xs4 : Vec F S64x256 .f32)

/-- What the step reads, as the program reads it. -/
abbrev rawIn : In F := reads arg9 harg9 arg13 harg13 arg14 harg14 x7 x11 x12
  (View.readAt (Elt F) arg18.view (Rect.unit (s := S64x256) ![0, 0] S64x256.size inb_S64x256_S64x256_0_0).toLoadRect (harg18.unread xs0))
  (View.readAt (Elt F) arg20.view (Rect.unit (s := S32x128) ![0, 0] S8x128.size inb_S32x128_S8x128_0_0).toLoadRect (harg20.unread xs2))
  (View.readAt (Elt F) arg20.view (Rect.unit (s := S32x128) ![8, 0] S8x128.size inb_S32x128_S8x128_8_0).toLoadRect (harg20.unread xs2))
  (View.readAt (Elt F) arg20.view (Rect.unit (s := S32x128) ![16, 0] S8x128.size inb_S32x128_S8x128_16_0).toLoadRect (harg20.unread xs2))
  (View.readAt (Elt F) arg20.view (Rect.unit (s := S32x128) ![24, 0] S8x128.size inb_S32x128_S8x128_24_0).toLoadRect (harg20.unread xs2))
  (View.readAt (Elt F) arg21.view (Rect.unit (s := S8x128) ![0, 0] S8x128.size inb_S8x128_S8x128_0_0).toLoadRect (harg21.unread xs3))
  (View.readAt (Elt F) arg22.view (Rect.unit (s := S64x256) ![0, 0] S64x256.size inb_S64x256_S64x256_0_0).toLoadRect (harg22.unread xs4))

theorem rawIn_eq : (rawIn arg9 harg9 arg13 harg13 arg14 harg14 arg18 harg18 arg20 harg20 arg21 harg21 arg22 harg22 x7 x11 x12 xs0 xs2 xs3 xs4) = inp x7 x11 x12 xs0 xs2 xs3 xs4 := by
  simp only [rawIn, reads, inp, View.readAt_eq_ld, Memref.IsWhole.read_unread]
  have z : (![0, 0] : Fin 2 → ℕ) = fun _ => 0 := by
    funext a
    fin_cases a <;> rfl
  congr 1 <;> exact View.ld_unit_zero z _ _

attribute [local irreducible] View.readAt View.readCov extractStridedSlice concatenate select shapeCast mulf addf subf divf
  maximumf minimumf exp broadcast broadcastTo multiReduction cmpi truncf extf Scalar.mulf Scalar.extf Scalar.truncf

set_option maxHeartbeats 0 in
theorem run2 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xs0 xs2 xs3 xs4).2.2.2.2.1 = tops (rawIn arg9 harg9 arg13 harg13 arg14 harg14 arg18 harg18 arg20 harg20 arg21 harg21 arg22 harg22 x7 x11 x12 xs0 xs2 xs3 xs4) := rfl

set_option maxHeartbeats 0 in
theorem run3 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xs0 xs2 xs3 xs4).2.2.2.2.2.1
    = [⟨Rect.unit (s := S8x128) ![0, 0] S8x128.size inb_S8x128_S8x128_0_0, newL (rawIn arg9 harg9 arg13 harg13 arg14 harg14 arg18 harg18 arg20 harg20 arg21 harg21 arg22 harg22 x7 x11 x12 xs0 xs2 xs3 xs4) (kept arg19 (rawIn arg9 harg9 arg13 harg13 arg14 harg14 arg18 harg18 arg20 harg20 arg21 harg21 arg22 harg22 x7 x11 x12 xs0 xs2 xs3 xs4))⟩] := rfl

set_option maxHeartbeats 0 in
theorem run4 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xs0 xs2 xs3 xs4).2.2.2.2.2.2.1
    = [⟨Rect.unit (s := S64x256) ![0, 0] S64x256.size inb_S64x256_S64x256_0_0, newO (rawIn arg9 harg9 arg13 harg13 arg14 harg14 arg18 harg18 arg20 harg20 arg21 harg21 arg22 harg22 x7 x11 x12 xs0 xs2 xs3 xs4) (kept arg19 (rawIn arg9 harg9 arg13 harg13 arg14 harg14 arg18 harg18 arg20 harg20 arg21 harg21 arg22 harg22 x7 x11 x12 xs0 xs2 xs3 xs4))⟩] := rfl

end Cert.Body.B
-- ==== Proof.StepB.lean ====
/- What the step of case B leaves in each buffer, as functions of the blocks it is given. -/
module

public import proofs.«01_k».proof.Proof.BodyB
public import proofs.«01_k».proof.Proof.Kept
public import Idealize.ShloMosaic.Lib.Pipeline.ValueKit.Point

@[expose] public section

set_option maxRecDepth 65536

noncomputable section

namespace Cert.Body.B

open Idealize.ShloMosaic Idealize.ShloMosaic.TcCoe Cert.KernelIdeal Cert.KernelIdeal.Gen
open Idealize.SL.Sem

variable {F : FTy → Type} [FloatOps F]

variable (c : Dev nD) (i : grid0.Coords) (arg2 : Memref sig .tc .vmem S1x32x128 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x1 .i32) (harg7 : arg7.IsWhole) (arg8 : Memref sig .tc .vmem S128x1 .i32) (harg8 : arg8.IsWhole) (arg9 : Memref sig .tc .smem S4 .f32) (harg9 : arg9.IsWhole) (arg10 : Memref sig .tc .smem S4 .f32) (harg10 : arg10.IsWhole) (arg11 : Memref sig .tc .smem S4 .i32) (harg11 : arg11.IsWhole) (arg12 : Memref sig .tc .smem S4 .i32) (harg12 : arg12.IsWhole) (arg13 : Memref sig .tc .vmem S1x32768x128 .fp8e4m3) (harg13 : arg13.IsWhole) (arg14 : Memref sig .tc .vmem S1x32768x128 .fp8e4m3) (harg14 : arg14.IsWhole) (arg15 : Memref sig .tc .vmem S1x32x128 .bf16) (harg15 : arg15.IsWhole) (arg16 : Memref sig .tc .vmem S128x128 .fp8e4m3) (harg16 : arg16.IsWhole) (arg17 : Memref sig .tc .vmem S128x128 .fp8e4m3) (harg17 : arg17.IsWhole) (arg18 : Memref sig .tc .vmem S64x256 .bf16) (harg18 : arg18.IsWhole) (arg19 : Memref sig .tc .vmem S16x16384 .f32) (harg19 : arg19.IsWhole) (arg20 : Memref sig .tc .vmem S32x128 .f32) (harg20 : arg20.IsWhole) (arg21 : Memref sig .tc .vmem S8x128 .f32) (harg21 : arg21.IsWhole) (arg22 : Memref sig .tc .vmem S64x256 .f32) (harg22 : arg22.IsWhole) (hc0 : ¬cond0_0 i) (hc1 : ¬cond0_1 i) (hc2 : ¬cond0_2 i)
    (x0 : Vec F S1x32x128 .bf16) (x1 : Vec F S1x4x128 .bf16) (x2 : Vec F S1x4x128 .bf16) (x3 : Vec F S128x128 .bf16) (x4 : Vec F S128x128 .bf16) (x5 : Vec F S128x1 .i32) (x6 : Vec F S128x1 .i32) (x7 : Vec F S4 .f32) (x8 : Vec F S4 .f32) (x9 : Vec F S4 .i32) (x10 : Vec F S4 .i32) (x11 : Vec F S1x32768x128 .fp8e4m3) (x12 : Vec F S1x32768x128 .fp8e4m3) (xs0 : Vec F S64x256 .bf16) (xs2 : Vec F S32x128 .f32) (xs3 : Vec F S8x128 .f32) (xs4 : Vec F S64x256 .f32)

theorem zeros2 : (![0, 0] : Fin 2 → ℕ) = fun _ => 0 := by
  funext a
  fin_cases a <;> rfl

/-- The maxima. -/
theorem maxima : sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xs0 xs2 xs3 xs4 = View.canon (tops (inp x7 x11 x12 xs0 xs2 xs3 xs4)) := by
  unfold sout0_B_2
  rw [View.read_writes_junk_eq_canon, run2, rawIn_eq]

/-- The sums of the weights. -/
theorem sums : sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xs0 xs2 xs3 xs4 = newL (inp x7 x11 x12 xs0 xs2 xs3 xs4) (tile (inp x7 x11 x12 xs0 xs2 xs3 xs4)) := by
  unfold sout0_B_3
  rw [View.read_writes_junk_eq_canon, run3, View.canon_cons_unit_zero zeros2, newL_kept, rawIn_eq]

/-- The weighted values. -/
theorem outs : sout0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xs0 xs2 xs3 xs4 = newO (inp x7 x11 x12 xs0 xs2 xs3 xs4) (tile (inp x7 x11 x12 xs0 xs2 xs3 xs4)) := by
  unfold sout0_B_4
  rw [View.read_writes_junk_eq_canon, run4, View.canon_cons_unit_zero zeros2, newO_kept, rawIn_eq]

end Cert.Body.B

end
-- ==== Proof.BodyC.lean ====
module

public import proofs.«01_k».proof.Proof.Body
public import proofs.«01_k».proof.Proof.Gen.KernelIdeal.Frame
public import Idealize.ShloMosaic.Lib.Pipeline.ValueKit.Point

@[expose] public section

set_option maxRecDepth 65536

/-! What the last step of a batch leaves, in the terms of `Body`. -/

noncomputable section

namespace Cert.Body.C

open Idealize.ShloMosaic Idealize.ShloMosaic.TcCoe Cert.KernelIdeal Cert.KernelIdeal.Gen
open Idealize.SL.Sem

variable {F : FTy → Type} [FloatOps F]

variable (c : Dev nD) (i : grid0.Coords) (arg2 : Memref sig .tc .vmem S1x32x128 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x1 .i32) (harg7 : arg7.IsWhole) (arg8 : Memref sig .tc .vmem S128x1 .i32) (harg8 : arg8.IsWhole) (arg9 : Memref sig .tc .smem S4 .f32) (harg9 : arg9.IsWhole) (arg10 : Memref sig .tc .smem S4 .f32) (harg10 : arg10.IsWhole) (arg11 : Memref sig .tc .smem S4 .i32) (harg11 : arg11.IsWhole) (arg12 : Memref sig .tc .smem S4 .i32) (harg12 : arg12.IsWhole) (arg13 : Memref sig .tc .vmem S1x32768x128 .fp8e4m3) (harg13 : arg13.IsWhole) (arg14 : Memref sig .tc .vmem S1x32768x128 .fp8e4m3) (harg14 : arg14.IsWhole) (arg15 : Memref sig .tc .vmem S1x32x128 .bf16) (harg15 : arg15.IsWhole) (arg16 : Memref sig .tc .vmem S128x128 .fp8e4m3) (harg16 : arg16.IsWhole) (arg17 : Memref sig .tc .vmem S128x128 .fp8e4m3) (harg17 : arg17.IsWhole) (arg18 : Memref sig .tc .vmem S64x256 .bf16) (harg18 : arg18.IsWhole) (arg19 : Memref sig .tc .vmem S16x16384 .f32) (harg19 : arg19.IsWhole) (arg20 : Memref sig .tc .vmem S32x128 .f32) (harg20 : arg20.IsWhole) (arg21 : Memref sig .tc .vmem S8x128 .f32) (harg21 : arg21.IsWhole) (arg22 : Memref sig .tc .vmem S64x256 .f32) (harg22 : arg22.IsWhole) (hc0 : ¬cond0_0 i) (hc1 : ¬cond0_1 i) (hc2 : cond0_2 i)
    (x0 : Vec F S1x32x128 .bf16) (x1 : Vec F S1x4x128 .bf16) (x2 : Vec F S1x4x128 .bf16) (x3 : Vec F S128x128 .bf16) (x4 : Vec F S128x128 .bf16) (x5 : Vec F S128x1 .i32) (x6 : Vec F S128x1 .i32) (x7 : Vec F S4 .f32) (x8 : Vec F S4 .f32) (x9 : Vec F S4 .i32) (x10 : Vec F S4 .i32) (x11 : Vec F S1x32768x128 .fp8e4m3) (x12 : Vec F S1x32768x128 .fp8e4m3) (xs0 : Vec F S64x256 .bf16) (xs2 : Vec F S32x128 .f32) (xs3 : Vec F S8x128 .f32) (xs4 : Vec F S64x256 .f32)

/-- What the step reads, as the program reads it. -/
abbrev rawIn : In F := reads arg9 harg9 arg13 harg13 arg14 harg14 x7 x11 x12
  (View.readAt (Elt F) arg18.view (Rect.unit (s := S64x256) ![0, 0] S64x256.size inb_S64x256_S64x256_0_0).toLoadRect (harg18.unread xs0))
  (View.readAt (Elt F) arg20.view (Rect.unit (s := S32x128) ![0, 0] S8x128.size inb_S32x128_S8x128_0_0).toLoadRect (harg20.unread xs2))
  (View.readAt (Elt F) arg20.view (Rect.unit (s := S32x128) ![8, 0] S8x128.size inb_S32x128_S8x128_8_0).toLoadRect (harg20.unread xs2))
  (View.readAt (Elt F) arg20.view (Rect.unit (s := S32x128) ![16, 0] S8x128.size inb_S32x128_S8x128_16_0).toLoadRect (harg20.unread xs2))
  (View.readAt (Elt F) arg20.view (Rect.unit (s := S32x128) ![24, 0] S8x128.size inb_S32x128_S8x128_24_0).toLoadRect (harg20.unread xs2))
  (View.readAt (Elt F) arg21.view (Rect.unit (s := S8x128) ![0, 0] S8x128.size inb_S8x128_S8x128_0_0).toLoadRect (harg21.unread xs3))
  (View.readAt (Elt F) arg22.view (Rect.unit (s := S64x256) ![0, 0] S64x256.size inb_S64x256_S64x256_0_0).toLoadRect (harg22.unread xs4))

theorem rawIn_eq : (rawIn arg9 harg9 arg13 harg13 arg14 harg14 arg18 harg18 arg20 harg20 arg21 harg21 arg22 harg22 x7 x11 x12 xs0 xs2 xs3 xs4) = inp x7 x11 x12 xs0 xs2 xs3 xs4 := by
  simp only [rawIn, reads, inp, View.readAt_eq_ld, Memref.IsWhole.read_unread]
  have z : (![0, 0] : Fin 2 → ℕ) = fun _ => 0 := by
    funext a
    fin_cases a <;> rfl
  congr 1 <;> exact View.ld_unit_zero z _ _

attribute [local irreducible] View.readAt View.readCov extractStridedSlice concatenate select shapeCast mulf addf subf divf
  maximumf minimumf exp broadcast broadcastTo multiReduction cmpi truncf extf Scalar.mulf Scalar.extf Scalar.truncf

set_option maxHeartbeats 0 in
theorem run2 : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xs0 xs2 xs3 xs4).2.2.2.2.1 = tops (rawIn arg9 harg9 arg13 harg13 arg14 harg14 arg18 harg18 arg20 harg20 arg21 harg21 arg22 harg22 x7 x11 x12 xs0 xs2 xs3 xs4) := rfl

set_option maxHeartbeats 0 in
theorem run3 : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xs0 xs2 xs3 xs4).2.2.2.2.2.1
    = [⟨Rect.unit (s := S8x128) ![0, 0] S8x128.size inb_S8x128_S8x128_0_0, newL (rawIn arg9 harg9 arg13 harg13 arg14 harg14 arg18 harg18 arg20 harg20 arg21 harg21 arg22 harg22 x7 x11 x12 xs0 xs2 xs3 xs4) (kept arg19 (rawIn arg9 harg9 arg13 harg13 arg14 harg14 arg18 harg18 arg20 harg20 arg21 harg21 arg22 harg22 x7 x11 x12 xs0 xs2 xs3 xs4))⟩] := rfl

set_option maxHeartbeats 0 in
theorem run4 : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xs0 xs2 xs3 xs4).2.2.2.2.2.2.1
    = [⟨Rect.unit (s := S64x256) ![0, 0] S64x256.size inb_S64x256_S64x256_0_0, newO (rawIn arg9 harg9 arg13 harg13 arg14 harg14 arg18 harg18 arg20 harg20 arg21 harg21 arg22 harg22 x7 x11 x12 xs0 xs2 xs3 xs4) (kept arg19 (rawIn arg9 harg9 arg13 harg13 arg14 harg14 arg18 harg18 arg20 harg20 arg21 harg21 arg22 harg22 x7 x11 x12 xs0 xs2 xs3 xs4))⟩] := rfl

set_option maxHeartbeats 0 in
theorem run13 : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xs0 xs2 xs3 xs4).1 =
  [⟨Rect.unit (s := S1x32x128) ![0, 24, 0] S1x8x128.size inb_S1x32x128_S1x8x128_0_24_0, answer 3#32
      (View.readAt (Elt F) arg2.view (Rect.unit (s := S1x32x128) ![0, 24, 0] S1x8x128.size inb_S1x32x128_S1x8x128_0_24_0).toLoadRect (harg2.unread x0))
      (View.readAt (Elt F) arg3.view (Rect.unit (s := S1x4x128) ![0, 3, 0] S1x1x128.size inb_S1x4x128_S1x1x128_0_3_0).toLoadRect (harg3.unread x1))
      (View.readAt (Elt F) arg4.view (Rect.unit (s := S1x4x128) ![0, 3, 0] S1x1x128.size inb_S1x4x128_S1x1x128_0_3_0).toLoadRect (harg4.unread x2))
      (View.readAt (Elt F) arg9.view (Rect.unit (s := S4) ![3] S1.size inb_S4_S1_3).toLoadRect (harg9.unread x7) (Shape.Idx.first (Nat.lt_of_lt_of_eq Nat.one_pos numel1_S1.symm)))
      (View.readAt (Elt F) arg10.view (Rect.unit (s := S4) ![3] S1.size inb_S4_S1_3).toLoadRect (harg10.unread x8) (Shape.Idx.first (Nat.lt_of_lt_of_eq Nat.one_pos numel1_S1.symm)))
      (View.readAt (Elt F) arg11.view (Rect.unit (s := S4) ![3] S1.size inb_S4_S1_3).toLoadRect (harg11.unread x9) (Shape.Idx.first (Nat.lt_of_lt_of_eq Nat.one_pos numel1_S1.symm)))
      (View.readAt (Elt F) arg12.view (Rect.unit (s := S4) ![3] S1.size inb_S4_S1_3).toLoadRect (harg12.unread x10) (Shape.Idx.first (Nat.lt_of_lt_of_eq Nat.one_pos numel1_S1.symm)))
      (View.readCov arg21.view [⟨Rect.unit (s := S8x128) ![0, 0] S8x128.size inb_S8x128_S8x128_0_0, newL (rawIn arg9 harg9 arg13 harg13 arg14 harg14 arg18 harg18 arg20 harg20 arg21 harg21 arg22 harg22 x7 x11 x12 xs0 xs2 xs3 xs4) (kept arg19 (rawIn arg9 harg9 arg13 harg13 arg14 harg14 arg18 harg18 arg20 harg20 arg21 harg21 arg22 harg22 x7 x11 x12 xs0 xs2 xs3 xs4))⟩] (Rect.unit (s := S8x128) ![0, 0] S8x128.size inb_S8x128_S8x128_0_0).toLoadRect)
      (View.readCov arg20.view (tops (rawIn arg9 harg9 arg13 harg13 arg14 harg14 arg18 harg18 arg20 harg20 arg21 harg21 arg22 harg22 x7 x11 x12 xs0 xs2 xs3 xs4)) (Rect.unit (s := S32x128) ![24, 0] S8x128.size inb_S32x128_S8x128_24_0).toLoadRect)
      (View.readCov arg22.view [⟨Rect.unit (s := S64x256) ![0, 0] S64x256.size inb_S64x256_S64x256_0_0, newO (rawIn arg9 harg9 arg13 harg13 arg14 harg14 arg18 harg18 arg20 harg20 arg21 harg21 arg22 harg22 x7 x11 x12 xs0 xs2 xs3 xs4) (kept arg19 (rawIn arg9 harg9 arg13 harg13 arg14 harg14 arg18 harg18 arg20 harg20 arg21 harg21 arg22 harg22 x7 x11 x12 xs0 xs2 xs3 xs4))⟩]
        (Rect.unit (s := S64x256) ![24, 0] S8x128.size inb_S64x256_S8x128_24_0).toLoadRect)
      (View.readCov arg22.view [⟨Rect.unit (s := S64x256) ![0, 0] S64x256.size inb_S64x256_S64x256_0_0, newO (rawIn arg9 harg9 arg13 harg13 arg14 harg14 arg18 harg18 arg20 harg20 arg21 harg21 arg22 harg22 x7 x11 x12 xs0 xs2 xs3 xs4) (kept arg19 (rawIn arg9 harg9 arg13 harg13 arg14 harg14 arg18 harg18 arg20 harg20 arg21 harg21 arg22 harg22 x7 x11 x12 xs0 xs2 xs3 xs4))⟩]
        (Rect.unit (s := S64x256) ![56, 128] S8x128.size inb_S64x256_S8x128_56_128).toLoadRect)⟩,
   ⟨Rect.unit (s := S1x32x128) ![0, 16, 0] S1x8x128.size inb_S1x32x128_S1x8x128_0_16_0, answer 2#32
      (View.readAt (Elt F) arg2.view (Rect.unit (s := S1x32x128) ![0, 16, 0] S1x8x128.size inb_S1x32x128_S1x8x128_0_16_0).toLoadRect (harg2.unread x0))
      (View.readAt (Elt F) arg3.view (Rect.unit (s := S1x4x128) ![0, 2, 0] S1x1x128.size inb_S1x4x128_S1x1x128_0_2_0).toLoadRect (harg3.unread x1))
      (View.readAt (Elt F) arg4.view (Rect.unit (s := S1x4x128) ![0, 2, 0] S1x1x128.size inb_S1x4x128_S1x1x128_0_2_0).toLoadRect (harg4.unread x2))
      (View.readAt (Elt F) arg9.view (Rect.unit (s := S4) ![2] S1.size inb_S4_S1_2).toLoadRect (harg9.unread x7) (Shape.Idx.first (Nat.lt_of_lt_of_eq Nat.one_pos numel1_S1.symm)))
      (View.readAt (Elt F) arg10.view (Rect.unit (s := S4) ![2] S1.size inb_S4_S1_2).toLoadRect (harg10.unread x8) (Shape.Idx.first (Nat.lt_of_lt_of_eq Nat.one_pos numel1_S1.symm)))
      (View.readAt (Elt F) arg11.view (Rect.unit (s := S4) ![2] S1.size inb_S4_S1_2).toLoadRect (harg11.unread x9) (Shape.Idx.first (Nat.lt_of_lt_of_eq Nat.one_pos numel1_S1.symm)))
      (View.readAt (Elt F) arg12.view (Rect.unit (s := S4) ![2] S1.size inb_S4_S1_2).toLoadRect (harg12.unread x10) (Shape.Idx.first (Nat.lt_of_lt_of_eq Nat.one_pos numel1_S1.symm)))
      (View.readCov arg21.view [⟨Rect.unit (s := S8x128) ![0, 0] S8x128.size inb_S8x128_S8x128_0_0, newL (rawIn arg9 harg9 arg13 harg13 arg14 harg14 arg18 harg18 arg20 harg20 arg21 harg21 arg22 harg22 x7 x11 x12 xs0 xs2 xs3 xs4) (kept arg19 (rawIn arg9 harg9 arg13 harg13 arg14 harg14 arg18 harg18 arg20 harg20 arg21 harg21 arg22 harg22 x7 x11 x12 xs0 xs2 xs3 xs4))⟩] (Rect.unit (s := S8x128) ![0, 0] S8x128.size inb_S8x128_S8x128_0_0).toLoadRect)
      (View.readCov arg20.view (tops (rawIn arg9 harg9 arg13 harg13 arg14 harg14 arg18 harg18 arg20 harg20 arg21 harg21 arg22 harg22 x7 x11 x12 xs0 xs2 xs3 xs4)) (Rect.unit (s := S32x128) ![16, 0] S8x128.size inb_S32x128_S8x128_16_0).toLoadRect)
      (View.readCov arg22.view [⟨Rect.unit (s := S64x256) ![0, 0] S64x256.size inb_S64x256_S64x256_0_0, newO (rawIn arg9 harg9 arg13 harg13 arg14 harg14 arg18 harg18 arg20 harg20 arg21 harg21 arg22 harg22 x7 x11 x12 xs0 xs2 xs3 xs4) (kept arg19 (rawIn arg9 harg9 arg13 harg13 arg14 harg14 arg18 harg18 arg20 harg20 arg21 harg21 arg22 harg22 x7 x11 x12 xs0 xs2 xs3 xs4))⟩]
        (Rect.unit (s := S64x256) ![16, 0] S8x128.size inb_S64x256_S8x128_16_0).toLoadRect)
      (View.readCov arg22.view [⟨Rect.unit (s := S64x256) ![0, 0] S64x256.size inb_S64x256_S64x256_0_0, newO (rawIn arg9 harg9 arg13 harg13 arg14 harg14 arg18 harg18 arg20 harg20 arg21 harg21 arg22 harg22 x7 x11 x12 xs0 xs2 xs3 xs4) (kept arg19 (rawIn arg9 harg9 arg13 harg13 arg14 harg14 arg18 harg18 arg20 harg20 arg21 harg21 arg22 harg22 x7 x11 x12 xs0 xs2 xs3 xs4))⟩]
        (Rect.unit (s := S64x256) ![48, 128] S8x128.size inb_S64x256_S8x128_48_128).toLoadRect)⟩,
   ⟨Rect.unit (s := S1x32x128) ![0, 8, 0] S1x8x128.size inb_S1x32x128_S1x8x128_0_8_0, answer 1#32
      (View.readAt (Elt F) arg2.view (Rect.unit (s := S1x32x128) ![0, 8, 0] S1x8x128.size inb_S1x32x128_S1x8x128_0_8_0).toLoadRect (harg2.unread x0))
      (View.readAt (Elt F) arg3.view (Rect.unit (s := S1x4x128) ![0, 1, 0] S1x1x128.size inb_S1x4x128_S1x1x128_0_1_0).toLoadRect (harg3.unread x1))
      (View.readAt (Elt F) arg4.view (Rect.unit (s := S1x4x128) ![0, 1, 0] S1x1x128.size inb_S1x4x128_S1x1x128_0_1_0).toLoadRect (harg4.unread x2))
      (View.readAt (Elt F) arg9.view (Rect.unit (s := S4) ![1] S1.size inb_S4_S1_1).toLoadRect (harg9.unread x7) (Shape.Idx.first (Nat.lt_of_lt_of_eq Nat.one_pos numel1_S1.symm)))
      (View.readAt (Elt F) arg10.view (Rect.unit (s := S4) ![1] S1.size inb_S4_S1_1).toLoadRect (harg10.unread x8) (Shape.Idx.first (Nat.lt_of_lt_of_eq Nat.one_pos numel1_S1.symm)))
      (View.readAt (Elt F) arg11.view (Rect.unit (s := S4) ![1] S1.size inb_S4_S1_1).toLoadRect (harg11.unread x9) (Shape.Idx.first (Nat.lt_of_lt_of_eq Nat.one_pos numel1_S1.symm)))
      (View.readAt (Elt F) arg12.view (Rect.unit (s := S4) ![1] S1.size inb_S4_S1_1).toLoadRect (harg12.unread x10) (Shape.Idx.first (Nat.lt_of_lt_of_eq Nat.one_pos numel1_S1.symm)))
      (View.readCov arg21.view [⟨Rect.unit (s := S8x128) ![0, 0] S8x128.size inb_S8x128_S8x128_0_0, newL (rawIn arg9 harg9 arg13 harg13 arg14 harg14 arg18 harg18 arg20 harg20 arg21 harg21 arg22 harg22 x7 x11 x12 xs0 xs2 xs3 xs4) (kept arg19 (rawIn arg9 harg9 arg13 harg13 arg14 harg14 arg18 harg18 arg20 harg20 arg21 harg21 arg22 harg22 x7 x11 x12 xs0 xs2 xs3 xs4))⟩] (Rect.unit (s := S8x128) ![0, 0] S8x128.size inb_S8x128_S8x128_0_0).toLoadRect)
      (View.readCov arg20.view (tops (rawIn arg9 harg9 arg13 harg13 arg14 harg14 arg18 harg18 arg20 harg20 arg21 harg21 arg22 harg22 x7 x11 x12 xs0 xs2 xs3 xs4)) (Rect.unit (s := S32x128) ![8, 0] S8x128.size inb_S32x128_S8x128_8_0).toLoadRect)
      (View.readCov arg22.view [⟨Rect.unit (s := S64x256) ![0, 0] S64x256.size inb_S64x256_S64x256_0_0, newO (rawIn arg9 harg9 arg13 harg13 arg14 harg14 arg18 harg18 arg20 harg20 arg21 harg21 arg22 harg22 x7 x11 x12 xs0 xs2 xs3 xs4) (kept arg19 (rawIn arg9 harg9 arg13 harg13 arg14 harg14 arg18 harg18 arg20 harg20 arg21 harg21 arg22 harg22 x7 x11 x12 xs0 xs2 xs3 xs4))⟩]
        (Rect.unit (s := S64x256) ![8, 0] S8x128.size inb_S64x256_S8x128_8_0).toLoadRect)
      (View.readCov arg22.view [⟨Rect.unit (s := S64x256) ![0, 0] S64x256.size inb_S64x256_S64x256_0_0, newO (rawIn arg9 harg9 arg13 harg13 arg14 harg14 arg18 harg18 arg20 harg20 arg21 harg21 arg22 harg22 x7 x11 x12 xs0 xs2 xs3 xs4) (kept arg19 (rawIn arg9 harg9 arg13 harg13 arg14 harg14 arg18 harg18 arg20 harg20 arg21 harg21 arg22 harg22 x7 x11 x12 xs0 xs2 xs3 xs4))⟩]
        (Rect.unit (s := S64x256) ![40, 128] S8x128.size inb_S64x256_S8x128_40_128).toLoadRect)⟩,
   ⟨Rect.unit (s := S1x32x128) ![0, 0, 0] S1x8x128.size inb_S1x32x128_S1x8x128_0_0_0, answer 0#32
      (View.readAt (Elt F) arg2.view (Rect.unit (s := S1x32x128) ![0, 0, 0] S1x8x128.size inb_S1x32x128_S1x8x128_0_0_0).toLoadRect (harg2.unread x0))
      (View.readAt (Elt F) arg3.view (Rect.unit (s := S1x4x128) ![0, 0, 0] S1x1x128.size inb_S1x4x128_S1x1x128_0_0_0).toLoadRect (harg3.unread x1))
      (View.readAt (Elt F) arg4.view (Rect.unit (s := S1x4x128) ![0, 0, 0] S1x1x128.size inb_S1x4x128_S1x1x128_0_0_0).toLoadRect (harg4.unread x2))
      (View.readAt (Elt F) arg9.view (Rect.unit (s := S4) ![0] S1.size inb_S4_S1_0).toLoadRect (harg9.unread x7) (Shape.Idx.first (Nat.lt_of_lt_of_eq Nat.one_pos numel1_S1.symm)))
      (View.readAt (Elt F) arg10.view (Rect.unit (s := S4) ![0] S1.size inb_S4_S1_0).toLoadRect (harg10.unread x8) (Shape.Idx.first (Nat.lt_of_lt_of_eq Nat.one_pos numel1_S1.symm)))
      (View.readAt (Elt F) arg11.view (Rect.unit (s := S4) ![0] S1.size inb_S4_S1_0).toLoadRect (harg11.unread x9) (Shape.Idx.first (Nat.lt_of_lt_of_eq Nat.one_pos numel1_S1.symm)))
      (View.readAt (Elt F) arg12.view (Rect.unit (s := S4) ![0] S1.size inb_S4_S1_0).toLoadRect (harg12.unread x10) (Shape.Idx.first (Nat.lt_of_lt_of_eq Nat.one_pos numel1_S1.symm)))
      (View.readCov arg21.view [⟨Rect.unit (s := S8x128) ![0, 0] S8x128.size inb_S8x128_S8x128_0_0, newL (rawIn arg9 harg9 arg13 harg13 arg14 harg14 arg18 harg18 arg20 harg20 arg21 harg21 arg22 harg22 x7 x11 x12 xs0 xs2 xs3 xs4) (kept arg19 (rawIn arg9 harg9 arg13 harg13 arg14 harg14 arg18 harg18 arg20 harg20 arg21 harg21 arg22 harg22 x7 x11 x12 xs0 xs2 xs3 xs4))⟩] (Rect.unit (s := S8x128) ![0, 0] S8x128.size inb_S8x128_S8x128_0_0).toLoadRect)
      (View.readCov arg20.view (tops (rawIn arg9 harg9 arg13 harg13 arg14 harg14 arg18 harg18 arg20 harg20 arg21 harg21 arg22 harg22 x7 x11 x12 xs0 xs2 xs3 xs4)) (Rect.unit (s := S32x128) ![0, 0] S8x128.size inb_S32x128_S8x128_0_0).toLoadRect)
      (View.readCov arg22.view [⟨Rect.unit (s := S64x256) ![0, 0] S64x256.size inb_S64x256_S64x256_0_0, newO (rawIn arg9 harg9 arg13 harg13 arg14 harg14 arg18 harg18 arg20 harg20 arg21 harg21 arg22 harg22 x7 x11 x12 xs0 xs2 xs3 xs4) (kept arg19 (rawIn arg9 harg9 arg13 harg13 arg14 harg14 arg18 harg18 arg20 harg20 arg21 harg21 arg22 harg22 x7 x11 x12 xs0 xs2 xs3 xs4))⟩]
        (Rect.unit (s := S64x256) ![0, 0] S8x128.size inb_S64x256_S8x128_0_0).toLoadRect)
      (View.readCov arg22.view [⟨Rect.unit (s := S64x256) ![0, 0] S64x256.size inb_S64x256_S64x256_0_0, newO (rawIn arg9 harg9 arg13 harg13 arg14 harg14 arg18 harg18 arg20 harg20 arg21 harg21 arg22 harg22 x7 x11 x12 xs0 xs2 xs3 xs4) (kept arg19 (rawIn arg9 harg9 arg13 harg13 arg14 harg14 arg18 harg18 arg20 harg20 arg21 harg21 arg22 harg22 x7 x11 x12 xs0 xs2 xs3 xs4))⟩]
        (Rect.unit (s := S64x256) ![32, 128] S8x128.size inb_S64x256_S8x128_32_128).toLoadRect)⟩] := rfl

end Cert.Body.C
-- ==== Proof.StepC.lean ====
/- What the step of case C leaves in each buffer, as functions of the blocks it is given. -/
module

public import proofs.«01_k».proof.Proof.BodyC
public import proofs.«01_k».proof.Proof.Kept
public import Idealize.ShloMosaic.Lib.Pipeline.ValueKit.Point

@[expose] public section

set_option maxRecDepth 65536

noncomputable section

namespace Cert.Body.C

open Idealize.ShloMosaic Idealize.ShloMosaic.TcCoe Cert.KernelIdeal Cert.KernelIdeal.Gen
open Idealize.SL.Sem

variable {F : FTy → Type} [FloatOps F]

variable (c : Dev nD) (i : grid0.Coords) (arg2 : Memref sig .tc .vmem S1x32x128 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x1 .i32) (harg7 : arg7.IsWhole) (arg8 : Memref sig .tc .vmem S128x1 .i32) (harg8 : arg8.IsWhole) (arg9 : Memref sig .tc .smem S4 .f32) (harg9 : arg9.IsWhole) (arg10 : Memref sig .tc .smem S4 .f32) (harg10 : arg10.IsWhole) (arg11 : Memref sig .tc .smem S4 .i32) (harg11 : arg11.IsWhole) (arg12 : Memref sig .tc .smem S4 .i32) (harg12 : arg12.IsWhole) (arg13 : Memref sig .tc .vmem S1x32768x128 .fp8e4m3) (harg13 : arg13.IsWhole) (arg14 : Memref sig .tc .vmem S1x32768x128 .fp8e4m3) (harg14 : arg14.IsWhole) (arg15 : Memref sig .tc .vmem S1x32x128 .bf16) (harg15 : arg15.IsWhole) (arg16 : Memref sig .tc .vmem S128x128 .fp8e4m3) (harg16 : arg16.IsWhole) (arg17 : Memref sig .tc .vmem S128x128 .fp8e4m3) (harg17 : arg17.IsWhole) (arg18 : Memref sig .tc .vmem S64x256 .bf16) (harg18 : arg18.IsWhole) (arg19 : Memref sig .tc .vmem S16x16384 .f32) (harg19 : arg19.IsWhole) (arg20 : Memref sig .tc .vmem S32x128 .f32) (harg20 : arg20.IsWhole) (arg21 : Memref sig .tc .vmem S8x128 .f32) (harg21 : arg21.IsWhole) (arg22 : Memref sig .tc .vmem S64x256 .f32) (harg22 : arg22.IsWhole) (hc0 : ¬cond0_0 i) (hc1 : ¬cond0_1 i) (hc2 : cond0_2 i)
    (x0 : Vec F S1x32x128 .bf16) (x1 : Vec F S1x4x128 .bf16) (x2 : Vec F S1x4x128 .bf16) (x3 : Vec F S128x128 .bf16) (x4 : Vec F S128x128 .bf16) (x5 : Vec F S128x1 .i32) (x6 : Vec F S128x1 .i32) (x7 : Vec F S4 .f32) (x8 : Vec F S4 .f32) (x9 : Vec F S4 .i32) (x10 : Vec F S4 .i32) (x11 : Vec F S1x32768x128 .fp8e4m3) (x12 : Vec F S1x32768x128 .fp8e4m3) (xs0 : Vec F S64x256 .bf16) (xs2 : Vec F S32x128 .f32) (xs3 : Vec F S8x128 .f32) (xs4 : Vec F S64x256 .f32)

theorem zeros2 : (![0, 0] : Fin 2 → ℕ) = fun _ => 0 := by
  funext a
  fin_cases a <;> rfl

/-- The maxima. -/
theorem maxima : sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xs0 xs2 xs3 xs4 = View.canon (tops (inp x7 x11 x12 xs0 xs2 xs3 xs4)) := by
  unfold sout0_C_2
  rw [View.read_writes_junk_eq_canon, run2, rawIn_eq]

/-- The sums of the weights. -/
theorem sums : sout0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xs0 xs2 xs3 xs4 = newL (inp x7 x11 x12 xs0 xs2 xs3 xs4) (tile (inp x7 x11 x12 xs0 xs2 xs3 xs4)) := by
  unfold sout0_C_3
  rw [View.read_writes_junk_eq_canon, run3, View.canon_cons_unit_zero zeros2, newL_kept, rawIn_eq]

/-- The weighted values. -/
theorem outs : sout0_C_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xs0 xs2 xs3 xs4 = newO (inp x7 x11 x12 xs0 xs2 xs3 xs4) (tile (inp x7 x11 x12 xs0 xs2 xs3 xs4)) := by
  unfold sout0_C_4
  rw [View.read_writes_junk_eq_canon, run4, View.canon_cons_unit_zero zeros2, newO_kept, rawIn_eq]

set_option maxHeartbeats 1000000 in
/-- The answers of the batch. -/
theorem results : out0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xs0 xs2 xs3 xs4
    = View.canon (answers x0 x1 x2 x7 x8 x9 x10 (View.canon (tops (inp x7 x11 x12 xs0 xs2 xs3 xs4))) (newL (inp x7 x11 x12 xs0 xs2 xs3 xs4) (tile (inp x7 x11 x12 xs0 xs2 xs3 xs4))) (newO (inp x7 x11 x12 xs0 xs2 xs3 xs4) (tile (inp x7 x11 x12 xs0 xs2 xs3 xs4)))) := by
  unfold out0_C_13
  rw [View.read_writes_junk_eq_canon, run13]
  rw [newL_kept, newO_kept, rawIn_eq]
  generalize newL (inp x7 x11 x12 xs0 xs2 xs3 xs4) (tile (inp x7 x11 x12 xs0 xs2 xs3 xs4)) = l
  generalize newO (inp x7 x11 x12 xs0 xs2 xs3 xs4) (tile (inp x7 x11 x12 xs0 xs2 xs3 xs4)) = o
  generalize tops (inp x7 x11 x12 xs0 xs2 xs3 xs4) = L
  have h1 : ∀ R : Rect S32x128, View.readCov (Val := Elt F) arg20.view L R.toLoadRect = View.ld (View.canon L) R :=
    fun R => View.readCov_eq_canon' arg20.view L R.toLoadRect
  have h2 : ∀ R : Rect S8x128, View.readCov (Val := Elt F) arg21.view [⟨Rect.unit (s := S8x128) ![0, 0] S8x128.size inb_S8x128_S8x128_0_0, l⟩] R.toLoadRect
      = View.ld (Val := Elt F) (e' := .f32) l R := fun R => by
    rw [View.readCov_eq_canon', View.canon_cons_unit_zero zeros2]
  have h3 : ∀ R : Rect S64x256, View.readCov (Val := Elt F) arg22.view [⟨Rect.unit (s := S64x256) ![0, 0] S64x256.size inb_S64x256_S64x256_0_0, o⟩] R.toLoadRect
      = View.ld (Val := Elt F) (e' := .f32) o R := fun R => by
    rw [View.readCov_eq_canon', View.canon_cons_unit_zero zeros2]
  have h4 : View.ld (Val := Elt F) (e' := .f32) l (Rect.unit (s := S8x128) ![0, 0] S8x128.size inb_S8x128_S8x128_0_0) = l := by
    rw [View.ld_unit_zero zeros2]
  simp only [View.readAt_eq_ld, Memref.IsWhole.read_unread, h1, h2, h3, h4]
  rfl

end Cert.Body.C

end
-- ==== Proof.BodyD.lean ====
module

public import proofs.«01_k».proof.Proof.Body
public import proofs.«01_k».proof.Proof.Gen.KernelIdeal.Frame
public import Idealize.ShloMosaic.Lib.Pipeline.ValueKit.Point

@[expose] public section

set_option maxRecDepth 65536

/-! What the last of all step of a batch leaves, in the terms of `Body`. -/

noncomputable section

namespace Cert.Body.D

open Idealize.ShloMosaic Idealize.ShloMosaic.TcCoe Cert.KernelIdeal Cert.KernelIdeal.Gen
open Idealize.SL.Sem

variable {F : FTy → Type} [FloatOps F]

variable (c : Dev nD) (i : grid0.Coords) (arg2 : Memref sig .tc .vmem S1x32x128 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x1 .i32) (harg7 : arg7.IsWhole) (arg8 : Memref sig .tc .vmem S128x1 .i32) (harg8 : arg8.IsWhole) (arg9 : Memref sig .tc .smem S4 .f32) (harg9 : arg9.IsWhole) (arg10 : Memref sig .tc .smem S4 .f32) (harg10 : arg10.IsWhole) (arg11 : Memref sig .tc .smem S4 .i32) (harg11 : arg11.IsWhole) (arg12 : Memref sig .tc .smem S4 .i32) (harg12 : arg12.IsWhole) (arg13 : Memref sig .tc .vmem S1x32768x128 .fp8e4m3) (harg13 : arg13.IsWhole) (arg14 : Memref sig .tc .vmem S1x32768x128 .fp8e4m3) (harg14 : arg14.IsWhole) (arg15 : Memref sig .tc .vmem S1x32x128 .bf16) (harg15 : arg15.IsWhole) (arg16 : Memref sig .tc .vmem S128x128 .fp8e4m3) (harg16 : arg16.IsWhole) (arg17 : Memref sig .tc .vmem S128x128 .fp8e4m3) (harg17 : arg17.IsWhole) (arg18 : Memref sig .tc .vmem S64x256 .bf16) (harg18 : arg18.IsWhole) (arg19 : Memref sig .tc .vmem S16x16384 .f32) (harg19 : arg19.IsWhole) (arg20 : Memref sig .tc .vmem S32x128 .f32) (harg20 : arg20.IsWhole) (arg21 : Memref sig .tc .vmem S8x128 .f32) (harg21 : arg21.IsWhole) (arg22 : Memref sig .tc .vmem S64x256 .f32) (harg22 : arg22.IsWhole) (hc0 : cond0_0 i) (hc1 : ¬cond0_1 i) (hc2 : cond0_2 i)
    (x0 : Vec F S1x32x128 .bf16) (x1 : Vec F S1x4x128 .bf16) (x2 : Vec F S1x4x128 .bf16) (x3 : Vec F S128x128 .bf16) (x4 : Vec F S128x128 .bf16) (x5 : Vec F S128x1 .i32) (x6 : Vec F S128x1 .i32) (x7 : Vec F S4 .f32) (x8 : Vec F S4 .f32) (x9 : Vec F S4 .i32) (x10 : Vec F S4 .i32) (x11 : Vec F S1x32768x128 .fp8e4m3) (x12 : Vec F S1x32768x128 .fp8e4m3) (xs0 : Vec F S64x256 .bf16) (xs2 : Vec F S32x128 .f32) (xs3 : Vec F S8x128 .f32) (xs4 : Vec F S64x256 .f32)

/-- What the step reads, as the program reads it. -/
abbrev rawIn : In F := reads arg9 harg9 arg13 harg13 arg14 harg14 x7 x11 x12
  (View.readAt (Elt F) arg18.view (Rect.unit (s := S64x256) ![0, 0] S64x256.size inb_S64x256_S64x256_0_0).toLoadRect (harg18.unread xs0))
  (View.readAt (Elt F) arg20.view (Rect.unit (s := S32x128) ![0, 0] S8x128.size inb_S32x128_S8x128_0_0).toLoadRect (harg20.unread xs2))
  (View.readAt (Elt F) arg20.view (Rect.unit (s := S32x128) ![8, 0] S8x128.size inb_S32x128_S8x128_8_0).toLoadRect (harg20.unread xs2))
  (View.readAt (Elt F) arg20.view (Rect.unit (s := S32x128) ![16, 0] S8x128.size inb_S32x128_S8x128_16_0).toLoadRect (harg20.unread xs2))
  (View.readAt (Elt F) arg20.view (Rect.unit (s := S32x128) ![24, 0] S8x128.size inb_S32x128_S8x128_24_0).toLoadRect (harg20.unread xs2))
  (View.readAt (Elt F) arg21.view (Rect.unit (s := S8x128) ![0, 0] S8x128.size inb_S8x128_S8x128_0_0).toLoadRect (harg21.unread xs3))
  (View.readAt (Elt F) arg22.view (Rect.unit (s := S64x256) ![0, 0] S64x256.size inb_S64x256_S64x256_0_0).toLoadRect (harg22.unread xs4))

theorem rawIn_eq : (rawIn arg9 harg9 arg13 harg13 arg14 harg14 arg18 harg18 arg20 harg20 arg21 harg21 arg22 harg22 x7 x11 x12 xs0 xs2 xs3 xs4) = inp x7 x11 x12 xs0 xs2 xs3 xs4 := by
  simp only [rawIn, reads, inp, View.readAt_eq_ld, Memref.IsWhole.read_unread]
  have z : (![0, 0] : Fin 2 → ℕ) = fun _ => 0 := by
    funext a
    fin_cases a <;> rfl
  congr 1 <;> exact View.ld_unit_zero z _ _

attribute [local irreducible] View.readAt View.readCov extractStridedSlice concatenate select shapeCast mulf addf subf divf
  maximumf minimumf exp broadcast broadcastTo multiReduction cmpi truncf extf Scalar.mulf Scalar.extf Scalar.truncf

set_option maxHeartbeats 0 in
theorem run2 : (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xs0 xs2 xs3 xs4).2.2.2.2.1 = tops (rawIn arg9 harg9 arg13 harg13 arg14 harg14 arg18 harg18 arg20 harg20 arg21 harg21 arg22 harg22 x7 x11 x12 xs0 xs2 xs3 xs4) := rfl

set_option maxHeartbeats 0 in
theorem run3 : (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xs0 xs2 xs3 xs4).2.2.2.2.2.1
    = [⟨Rect.unit (s := S8x128) ![0, 0] S8x128.size inb_S8x128_S8x128_0_0, newL (rawIn arg9 harg9 arg13 harg13 arg14 harg14 arg18 harg18 arg20 harg20 arg21 harg21 arg22 harg22 x7 x11 x12 xs0 xs2 xs3 xs4) (kept arg19 (rawIn arg9 harg9 arg13 harg13 arg14 harg14 arg18 harg18 arg20 harg20 arg21 harg21 arg22 harg22 x7 x11 x12 xs0 xs2 xs3 xs4))⟩] := rfl

set_option maxHeartbeats 0 in
theorem run4 : (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xs0 xs2 xs3 xs4).2.2.2.2.2.2.1
    = [⟨Rect.unit (s := S64x256) ![0, 0] S64x256.size inb_S64x256_S64x256_0_0, newO (rawIn arg9 harg9 arg13 harg13 arg14 harg14 arg18 harg18 arg20 harg20 arg21 harg21 arg22 harg22 x7 x11 x12 xs0 xs2 xs3 xs4) (kept arg19 (rawIn arg9 harg9 arg13 harg13 arg14 harg14 arg18 harg18 arg20 harg20 arg21 harg21 arg22 harg22 x7 x11 x12 xs0 xs2 xs3 xs4))⟩] := rfl

set_option maxHeartbeats 0 in
theorem run13 : (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xs0 xs2 xs3 xs4).1 =
  [⟨Rect.unit (s := S1x32x128) ![0, 24, 0] S1x8x128.size inb_S1x32x128_S1x8x128_0_24_0, answer 3#32
      (View.readAt (Elt F) arg2.view (Rect.unit (s := S1x32x128) ![0, 24, 0] S1x8x128.size inb_S1x32x128_S1x8x128_0_24_0).toLoadRect (harg2.unread x0))
      (View.readAt (Elt F) arg3.view (Rect.unit (s := S1x4x128) ![0, 3, 0] S1x1x128.size inb_S1x4x128_S1x1x128_0_3_0).toLoadRect (harg3.unread x1))
      (View.readAt (Elt F) arg4.view (Rect.unit (s := S1x4x128) ![0, 3, 0] S1x1x128.size inb_S1x4x128_S1x1x128_0_3_0).toLoadRect (harg4.unread x2))
      (View.readAt (Elt F) arg9.view (Rect.unit (s := S4) ![3] S1.size inb_S4_S1_3).toLoadRect (harg9.unread x7) (Shape.Idx.first (Nat.lt_of_lt_of_eq Nat.one_pos numel1_S1.symm)))
      (View.readAt (Elt F) arg10.view (Rect.unit (s := S4) ![3] S1.size inb_S4_S1_3).toLoadRect (harg10.unread x8) (Shape.Idx.first (Nat.lt_of_lt_of_eq Nat.one_pos numel1_S1.symm)))
      (View.readAt (Elt F) arg11.view (Rect.unit (s := S4) ![3] S1.size inb_S4_S1_3).toLoadRect (harg11.unread x9) (Shape.Idx.first (Nat.lt_of_lt_of_eq Nat.one_pos numel1_S1.symm)))
      (View.readAt (Elt F) arg12.view (Rect.unit (s := S4) ![3] S1.size inb_S4_S1_3).toLoadRect (harg12.unread x10) (Shape.Idx.first (Nat.lt_of_lt_of_eq Nat.one_pos numel1_S1.symm)))
      (View.readCov arg21.view [⟨Rect.unit (s := S8x128) ![0, 0] S8x128.size inb_S8x128_S8x128_0_0, newL (rawIn arg9 harg9 arg13 harg13 arg14 harg14 arg18 harg18 arg20 harg20 arg21 harg21 arg22 harg22 x7 x11 x12 xs0 xs2 xs3 xs4) (kept arg19 (rawIn arg9 harg9 arg13 harg13 arg14 harg14 arg18 harg18 arg20 harg20 arg21 harg21 arg22 harg22 x7 x11 x12 xs0 xs2 xs3 xs4))⟩] (Rect.unit (s := S8x128) ![0, 0] S8x128.size inb_S8x128_S8x128_0_0).toLoadRect)
      (View.readCov arg20.view (tops (rawIn arg9 harg9 arg13 harg13 arg14 harg14 arg18 harg18 arg20 harg20 arg21 harg21 arg22 harg22 x7 x11 x12 xs0 xs2 xs3 xs4)) (Rect.unit (s := S32x128) ![24, 0] S8x128.size inb_S32x128_S8x128_24_0).toLoadRect)
      (View.readCov arg22.view [⟨Rect.unit (s := S64x256) ![0, 0] S64x256.size inb_S64x256_S64x256_0_0, newO (rawIn arg9 harg9 arg13 harg13 arg14 harg14 arg18 harg18 arg20 harg20 arg21 harg21 arg22 harg22 x7 x11 x12 xs0 xs2 xs3 xs4) (kept arg19 (rawIn arg9 harg9 arg13 harg13 arg14 harg14 arg18 harg18 arg20 harg20 arg21 harg21 arg22 harg22 x7 x11 x12 xs0 xs2 xs3 xs4))⟩]
        (Rect.unit (s := S64x256) ![24, 0] S8x128.size inb_S64x256_S8x128_24_0).toLoadRect)
      (View.readCov arg22.view [⟨Rect.unit (s := S64x256) ![0, 0] S64x256.size inb_S64x256_S64x256_0_0, newO (rawIn arg9 harg9 arg13 harg13 arg14 harg14 arg18 harg18 arg20 harg20 arg21 harg21 arg22 harg22 x7 x11 x12 xs0 xs2 xs3 xs4) (kept arg19 (rawIn arg9 harg9 arg13 harg13 arg14 harg14 arg18 harg18 arg20 harg20 arg21 harg21 arg22 harg22 x7 x11 x12 xs0 xs2 xs3 xs4))⟩]
        (Rect.unit (s := S64x256) ![56, 128] S8x128.size inb_S64x256_S8x128_56_128).toLoadRect)⟩,
   ⟨Rect.unit (s := S1x32x128) ![0, 16, 0] S1x8x128.size inb_S1x32x128_S1x8x128_0_16_0, answer 2#32
      (View.readAt (Elt F) arg2.view (Rect.unit (s := S1x32x128) ![0, 16, 0] S1x8x128.size inb_S1x32x128_S1x8x128_0_16_0).toLoadRect (harg2.unread x0))
      (View.readAt (Elt F) arg3.view (Rect.unit (s := S1x4x128) ![0, 2, 0] S1x1x128.size inb_S1x4x128_S1x1x128_0_2_0).toLoadRect (harg3.unread x1))
      (View.readAt (Elt F) arg4.view (Rect.unit (s := S1x4x128) ![0, 2, 0] S1x1x128.size inb_S1x4x128_S1x1x128_0_2_0).toLoadRect (harg4.unread x2))
      (View.readAt (Elt F) arg9.view (Rect.unit (s := S4) ![2] S1.size inb_S4_S1_2).toLoadRect (harg9.unread x7) (Shape.Idx.first (Nat.lt_of_lt_of_eq Nat.one_pos numel1_S1.symm)))
      (View.readAt (Elt F) arg10.view (Rect.unit (s := S4) ![2] S1.size inb_S4_S1_2).toLoadRect (harg10.unread x8) (Shape.Idx.first (Nat.lt_of_lt_of_eq Nat.one_pos numel1_S1.symm)))
      (View.readAt (Elt F) arg11.view (Rect.unit (s := S4) ![2] S1.size inb_S4_S1_2).toLoadRect (harg11.unread x9) (Shape.Idx.first (Nat.lt_of_lt_of_eq Nat.one_pos numel1_S1.symm)))
      (View.readAt (Elt F) arg12.view (Rect.unit (s := S4) ![2] S1.size inb_S4_S1_2).toLoadRect (harg12.unread x10) (Shape.Idx.first (Nat.lt_of_lt_of_eq Nat.one_pos numel1_S1.symm)))
      (View.readCov arg21.view [⟨Rect.unit (s := S8x128) ![0, 0] S8x128.size inb_S8x128_S8x128_0_0, newL (rawIn arg9 harg9 arg13 harg13 arg14 harg14 arg18 harg18 arg20 harg20 arg21 harg21 arg22 harg22 x7 x11 x12 xs0 xs2 xs3 xs4) (kept arg19 (rawIn arg9 harg9 arg13 harg13 arg14 harg14 arg18 harg18 arg20 harg20 arg21 harg21 arg22 harg22 x7 x11 x12 xs0 xs2 xs3 xs4))⟩] (Rect.unit (s := S8x128) ![0, 0] S8x128.size inb_S8x128_S8x128_0_0).toLoadRect)
      (View.readCov arg20.view (tops (rawIn arg9 harg9 arg13 harg13 arg14 harg14 arg18 harg18 arg20 harg20 arg21 harg21 arg22 harg22 x7 x11 x12 xs0 xs2 xs3 xs4)) (Rect.unit (s := S32x128) ![16, 0] S8x128.size inb_S32x128_S8x128_16_0).toLoadRect)
      (View.readCov arg22.view [⟨Rect.unit (s := S64x256) ![0, 0] S64x256.size inb_S64x256_S64x256_0_0, newO (rawIn arg9 harg9 arg13 harg13 arg14 harg14 arg18 harg18 arg20 harg20 arg21 harg21 arg22 harg22 x7 x11 x12 xs0 xs2 xs3 xs4) (kept arg19 (rawIn arg9 harg9 arg13 harg13 arg14 harg14 arg18 harg18 arg20 harg20 arg21 harg21 arg22 harg22 x7 x11 x12 xs0 xs2 xs3 xs4))⟩]
        (Rect.unit (s := S64x256) ![16, 0] S8x128.size inb_S64x256_S8x128_16_0).toLoadRect)
      (View.readCov arg22.view [⟨Rect.unit (s := S64x256) ![0, 0] S64x256.size inb_S64x256_S64x256_0_0, newO (rawIn arg9 harg9 arg13 harg13 arg14 harg14 arg18 harg18 arg20 harg20 arg21 harg21 arg22 harg22 x7 x11 x12 xs0 xs2 xs3 xs4) (kept arg19 (rawIn arg9 harg9 arg13 harg13 arg14 harg14 arg18 harg18 arg20 harg20 arg21 harg21 arg22 harg22 x7 x11 x12 xs0 xs2 xs3 xs4))⟩]
        (Rect.unit (s := S64x256) ![48, 128] S8x128.size inb_S64x256_S8x128_48_128).toLoadRect)⟩,
   ⟨Rect.unit (s := S1x32x128) ![0, 8, 0] S1x8x128.size inb_S1x32x128_S1x8x128_0_8_0, answer 1#32
      (View.readAt (Elt F) arg2.view (Rect.unit (s := S1x32x128) ![0, 8, 0] S1x8x128.size inb_S1x32x128_S1x8x128_0_8_0).toLoadRect (harg2.unread x0))
      (View.readAt (Elt F) arg3.view (Rect.unit (s := S1x4x128) ![0, 1, 0] S1x1x128.size inb_S1x4x128_S1x1x128_0_1_0).toLoadRect (harg3.unread x1))
      (View.readAt (Elt F) arg4.view (Rect.unit (s := S1x4x128) ![0, 1, 0] S1x1x128.size inb_S1x4x128_S1x1x128_0_1_0).toLoadRect (harg4.unread x2))
      (View.readAt (Elt F) arg9.view (Rect.unit (s := S4) ![1] S1.size inb_S4_S1_1).toLoadRect (harg9.unread x7) (Shape.Idx.first (Nat.lt_of_lt_of_eq Nat.one_pos numel1_S1.symm)))
      (View.readAt (Elt F) arg10.view (Rect.unit (s := S4) ![1] S1.size inb_S4_S1_1).toLoadRect (harg10.unread x8) (Shape.Idx.first (Nat.lt_of_lt_of_eq Nat.one_pos numel1_S1.symm)))
      (View.readAt (Elt F) arg11.view (Rect.unit (s := S4) ![1] S1.size inb_S4_S1_1).toLoadRect (harg11.unread x9) (Shape.Idx.first (Nat.lt_of_lt_of_eq Nat.one_pos numel1_S1.symm)))
      (View.readAt (Elt F) arg12.view (Rect.unit (s := S4) ![1] S1.size inb_S4_S1_1).toLoadRect (harg12.unread x10) (Shape.Idx.first (Nat.lt_of_lt_of_eq Nat.one_pos numel1_S1.symm)))
      (View.readCov arg21.view [⟨Rect.unit (s := S8x128) ![0, 0] S8x128.size inb_S8x128_S8x128_0_0, newL (rawIn arg9 harg9 arg13 harg13 arg14 harg14 arg18 harg18 arg20 harg20 arg21 harg21 arg22 harg22 x7 x11 x12 xs0 xs2 xs3 xs4) (kept arg19 (rawIn arg9 harg9 arg13 harg13 arg14 harg14 arg18 harg18 arg20 harg20 arg21 harg21 arg22 harg22 x7 x11 x12 xs0 xs2 xs3 xs4))⟩] (Rect.unit (s := S8x128) ![0, 0] S8x128.size inb_S8x128_S8x128_0_0).toLoadRect)
      (View.readCov arg20.view (tops (rawIn arg9 harg9 arg13 harg13 arg14 harg14 arg18 harg18 arg20 harg20 arg21 harg21 arg22 harg22 x7 x11 x12 xs0 xs2 xs3 xs4)) (Rect.unit (s := S32x128) ![8, 0] S8x128.size inb_S32x128_S8x128_8_0).toLoadRect)
      (View.readCov arg22.view [⟨Rect.unit (s := S64x256) ![0, 0] S64x256.size inb_S64x256_S64x256_0_0, newO (rawIn arg9 harg9 arg13 harg13 arg14 harg14 arg18 harg18 arg20 harg20 arg21 harg21 arg22 harg22 x7 x11 x12 xs0 xs2 xs3 xs4) (kept arg19 (rawIn arg9 harg9 arg13 harg13 arg14 harg14 arg18 harg18 arg20 harg20 arg21 harg21 arg22 harg22 x7 x11 x12 xs0 xs2 xs3 xs4))⟩]
        (Rect.unit (s := S64x256) ![8, 0] S8x128.size inb_S64x256_S8x128_8_0).toLoadRect)
      (View.readCov arg22.view [⟨Rect.unit (s := S64x256) ![0, 0] S64x256.size inb_S64x256_S64x256_0_0, newO (rawIn arg9 harg9 arg13 harg13 arg14 harg14 arg18 harg18 arg20 harg20 arg21 harg21 arg22 harg22 x7 x11 x12 xs0 xs2 xs3 xs4) (kept arg19 (rawIn arg9 harg9 arg13 harg13 arg14 harg14 arg18 harg18 arg20 harg20 arg21 harg21 arg22 harg22 x7 x11 x12 xs0 xs2 xs3 xs4))⟩]
        (Rect.unit (s := S64x256) ![40, 128] S8x128.size inb_S64x256_S8x128_40_128).toLoadRect)⟩,
   ⟨Rect.unit (s := S1x32x128) ![0, 0, 0] S1x8x128.size inb_S1x32x128_S1x8x128_0_0_0, answer 0#32
      (View.readAt (Elt F) arg2.view (Rect.unit (s := S1x32x128) ![0, 0, 0] S1x8x128.size inb_S1x32x128_S1x8x128_0_0_0).toLoadRect (harg2.unread x0))
      (View.readAt (Elt F) arg3.view (Rect.unit (s := S1x4x128) ![0, 0, 0] S1x1x128.size inb_S1x4x128_S1x1x128_0_0_0).toLoadRect (harg3.unread x1))
      (View.readAt (Elt F) arg4.view (Rect.unit (s := S1x4x128) ![0, 0, 0] S1x1x128.size inb_S1x4x128_S1x1x128_0_0_0).toLoadRect (harg4.unread x2))
      (View.readAt (Elt F) arg9.view (Rect.unit (s := S4) ![0] S1.size inb_S4_S1_0).toLoadRect (harg9.unread x7) (Shape.Idx.first (Nat.lt_of_lt_of_eq Nat.one_pos numel1_S1.symm)))
      (View.readAt (Elt F) arg10.view (Rect.unit (s := S4) ![0] S1.size inb_S4_S1_0).toLoadRect (harg10.unread x8) (Shape.Idx.first (Nat.lt_of_lt_of_eq Nat.one_pos numel1_S1.symm)))
      (View.readAt (Elt F) arg11.view (Rect.unit (s := S4) ![0] S1.size inb_S4_S1_0).toLoadRect (harg11.unread x9) (Shape.Idx.first (Nat.lt_of_lt_of_eq Nat.one_pos numel1_S1.symm)))
      (View.readAt (Elt F) arg12.view (Rect.unit (s := S4) ![0] S1.size inb_S4_S1_0).toLoadRect (harg12.unread x10) (Shape.Idx.first (Nat.lt_of_lt_of_eq Nat.one_pos numel1_S1.symm)))
      (View.readCov arg21.view [⟨Rect.unit (s := S8x128) ![0, 0] S8x128.size inb_S8x128_S8x128_0_0, newL (rawIn arg9 harg9 arg13 harg13 arg14 harg14 arg18 harg18 arg20 harg20 arg21 harg21 arg22 harg22 x7 x11 x12 xs0 xs2 xs3 xs4) (kept arg19 (rawIn arg9 harg9 arg13 harg13 arg14 harg14 arg18 harg18 arg20 harg20 arg21 harg21 arg22 harg22 x7 x11 x12 xs0 xs2 xs3 xs4))⟩] (Rect.unit (s := S8x128) ![0, 0] S8x128.size inb_S8x128_S8x128_0_0).toLoadRect)
      (View.readCov arg20.view (tops (rawIn arg9 harg9 arg13 harg13 arg14 harg14 arg18 harg18 arg20 harg20 arg21 harg21 arg22 harg22 x7 x11 x12 xs0 xs2 xs3 xs4)) (Rect.unit (s := S32x128) ![0, 0] S8x128.size inb_S32x128_S8x128_0_0).toLoadRect)
      (View.readCov arg22.view [⟨Rect.unit (s := S64x256) ![0, 0] S64x256.size inb_S64x256_S64x256_0_0, newO (rawIn arg9 harg9 arg13 harg13 arg14 harg14 arg18 harg18 arg20 harg20 arg21 harg21 arg22 harg22 x7 x11 x12 xs0 xs2 xs3 xs4) (kept arg19 (rawIn arg9 harg9 arg13 harg13 arg14 harg14 arg18 harg18 arg20 harg20 arg21 harg21 arg22 harg22 x7 x11 x12 xs0 xs2 xs3 xs4))⟩]
        (Rect.unit (s := S64x256) ![0, 0] S8x128.size inb_S64x256_S8x128_0_0).toLoadRect)
      (View.readCov arg22.view [⟨Rect.unit (s := S64x256) ![0, 0] S64x256.size inb_S64x256_S64x256_0_0, newO (rawIn arg9 harg9 arg13 harg13 arg14 harg14 arg18 harg18 arg20 harg20 arg21 harg21 arg22 harg22 x7 x11 x12 xs0 xs2 xs3 xs4) (kept arg19 (rawIn arg9 harg9 arg13 harg13 arg14 harg14 arg18 harg18 arg20 harg20 arg21 harg21 arg22 harg22 x7 x11 x12 xs0 xs2 xs3 xs4))⟩]
        (Rect.unit (s := S64x256) ![32, 128] S8x128.size inb_S64x256_S8x128_32_128).toLoadRect)⟩] := rfl

theorem run14 : (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xs0 xs2 xs3 xs4).2.1
    = [⟨Rect.unit (s := S128x128) ![0, 0] S128x128.size inb_S128x128_S128x128_0_0, k0_pay4 (View.readAt (Elt F) arg5.view
      (Rect.unit (s := S128x128) ![0, 0] S128x128.size inb_S128x128_S128x128_0_0).toLoadRect (harg5.unread x3))
      (View.readAt (Elt F) arg7.view (Rect.unit (s := S128x1) ![0, 0] S128x1.size inb_S128x1_S128x1_0_0).toLoadRect (harg7.unread x5))⟩] := rfl

theorem run15 : (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xs0 xs2 xs3 xs4).2.2.1
    = [⟨Rect.unit (s := S128x128) ![0, 0] S128x128.size inb_S128x128_S128x128_0_0, k0_pay4 (View.readAt (Elt F) arg6.view
      (Rect.unit (s := S128x128) ![0, 0] S128x128.size inb_S128x128_S128x128_0_0).toLoadRect (harg6.unread x4))
      (View.readAt (Elt F) arg8.view (Rect.unit (s := S128x1) ![0, 0] S128x1.size inb_S128x1_S128x1_0_0).toLoadRect (harg8.unread x6))⟩] := rfl

end Cert.Body.D
-- ==== Proof.StepD.lean ====
/- What the step of case D leaves in each buffer, as functions of the blocks it is given. -/
module

public import proofs.«01_k».proof.Proof.BodyD
public import proofs.«01_k».proof.Proof.Kept
public import Idealize.ShloMosaic.Lib.Pipeline.ValueKit.Point

@[expose] public section

set_option maxRecDepth 65536

noncomputable section

namespace Cert.Body.D

open Idealize.ShloMosaic Idealize.ShloMosaic.TcCoe Cert.KernelIdeal Cert.KernelIdeal.Gen
open Idealize.SL.Sem

variable {F : FTy → Type} [FloatOps F]

variable (c : Dev nD) (i : grid0.Coords) (arg2 : Memref sig .tc .vmem S1x32x128 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x1 .i32) (harg7 : arg7.IsWhole) (arg8 : Memref sig .tc .vmem S128x1 .i32) (harg8 : arg8.IsWhole) (arg9 : Memref sig .tc .smem S4 .f32) (harg9 : arg9.IsWhole) (arg10 : Memref sig .tc .smem S4 .f32) (harg10 : arg10.IsWhole) (arg11 : Memref sig .tc .smem S4 .i32) (harg11 : arg11.IsWhole) (arg12 : Memref sig .tc .smem S4 .i32) (harg12 : arg12.IsWhole) (arg13 : Memref sig .tc .vmem S1x32768x128 .fp8e4m3) (harg13 : arg13.IsWhole) (arg14 : Memref sig .tc .vmem S1x32768x128 .fp8e4m3) (harg14 : arg14.IsWhole) (arg15 : Memref sig .tc .vmem S1x32x128 .bf16) (harg15 : arg15.IsWhole) (arg16 : Memref sig .tc .vmem S128x128 .fp8e4m3) (harg16 : arg16.IsWhole) (arg17 : Memref sig .tc .vmem S128x128 .fp8e4m3) (harg17 : arg17.IsWhole) (arg18 : Memref sig .tc .vmem S64x256 .bf16) (harg18 : arg18.IsWhole) (arg19 : Memref sig .tc .vmem S16x16384 .f32) (harg19 : arg19.IsWhole) (arg20 : Memref sig .tc .vmem S32x128 .f32) (harg20 : arg20.IsWhole) (arg21 : Memref sig .tc .vmem S8x128 .f32) (harg21 : arg21.IsWhole) (arg22 : Memref sig .tc .vmem S64x256 .f32) (harg22 : arg22.IsWhole) (hc0 : cond0_0 i) (hc1 : ¬cond0_1 i) (hc2 : cond0_2 i)
    (x0 : Vec F S1x32x128 .bf16) (x1 : Vec F S1x4x128 .bf16) (x2 : Vec F S1x4x128 .bf16) (x3 : Vec F S128x128 .bf16) (x4 : Vec F S128x128 .bf16) (x5 : Vec F S128x1 .i32) (x6 : Vec F S128x1 .i32) (x7 : Vec F S4 .f32) (x8 : Vec F S4 .f32) (x9 : Vec F S4 .i32) (x10 : Vec F S4 .i32) (x11 : Vec F S1x32768x128 .fp8e4m3) (x12 : Vec F S1x32768x128 .fp8e4m3) (xs0 : Vec F S64x256 .bf16) (xs2 : Vec F S32x128 .f32) (xs3 : Vec F S8x128 .f32) (xs4 : Vec F S64x256 .f32)

theorem zeros2 : (![0, 0] : Fin 2 → ℕ) = fun _ => 0 := by
  funext a
  fin_cases a <;> rfl

/-- The maxima. -/
theorem maxima : sout0_D_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xs0 xs2 xs3 xs4 = View.canon (tops (inp x7 x11 x12 xs0 xs2 xs3 xs4)) := by
  unfold sout0_D_2
  rw [View.read_writes_junk_eq_canon, run2, rawIn_eq]

/-- The sums of the weights. -/
theorem sums : sout0_D_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xs0 xs2 xs3 xs4 = newL (inp x7 x11 x12 xs0 xs2 xs3 xs4) (tile (inp x7 x11 x12 xs0 xs2 xs3 xs4)) := by
  unfold sout0_D_3
  rw [View.read_writes_junk_eq_canon, run3, View.canon_cons_unit_zero zeros2, newL_kept, rawIn_eq]

/-- The weighted values. -/
theorem outs : sout0_D_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xs0 xs2 xs3 xs4 = newO (inp x7 x11 x12 xs0 xs2 xs3 xs4) (tile (inp x7 x11 x12 xs0 xs2 xs3 xs4)) := by
  unfold sout0_D_4
  rw [View.read_writes_junk_eq_canon, run4, View.canon_cons_unit_zero zeros2, newO_kept, rawIn_eq]

set_option maxHeartbeats 1000000 in
/-- The answers of the batch. -/
theorem results : out0_D_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xs0 xs2 xs3 xs4
    = View.canon (answers x0 x1 x2 x7 x8 x9 x10 (View.canon (tops (inp x7 x11 x12 xs0 xs2 xs3 xs4))) (newL (inp x7 x11 x12 xs0 xs2 xs3 xs4) (tile (inp x7 x11 x12 xs0 xs2 xs3 xs4))) (newO (inp x7 x11 x12 xs0 xs2 xs3 xs4) (tile (inp x7 x11 x12 xs0 xs2 xs3 xs4)))) := by
  unfold out0_D_13
  rw [View.read_writes_junk_eq_canon, run13]
  rw [newL_kept, newO_kept, rawIn_eq]
  generalize newL (inp x7 x11 x12 xs0 xs2 xs3 xs4) (tile (inp x7 x11 x12 xs0 xs2 xs3 xs4)) = l
  generalize newO (inp x7 x11 x12 xs0 xs2 xs3 xs4) (tile (inp x7 x11 x12 xs0 xs2 xs3 xs4)) = o
  generalize tops (inp x7 x11 x12 xs0 xs2 xs3 xs4) = L
  have h1 : ∀ R : Rect S32x128, View.readCov (Val := Elt F) arg20.view L R.toLoadRect = View.ld (View.canon L) R :=
    fun R => View.readCov_eq_canon' arg20.view L R.toLoadRect
  have h2 : ∀ R : Rect S8x128, View.readCov (Val := Elt F) arg21.view [⟨Rect.unit (s := S8x128) ![0, 0] S8x128.size inb_S8x128_S8x128_0_0, l⟩] R.toLoadRect
      = View.ld (Val := Elt F) (e' := .f32) l R := fun R => by
    rw [View.readCov_eq_canon', View.canon_cons_unit_zero zeros2]
  have h3 : ∀ R : Rect S64x256, View.readCov (Val := Elt F) arg22.view [⟨Rect.unit (s := S64x256) ![0, 0] S64x256.size inb_S64x256_S64x256_0_0, o⟩] R.toLoadRect
      = View.ld (Val := Elt F) (e' := .f32) o R := fun R => by
    rw [View.readCov_eq_canon', View.canon_cons_unit_zero zeros2]
  have h4 : View.ld (Val := Elt F) (e' := .f32) l (Rect.unit (s := S8x128) ![0, 0] S8x128.size inb_S8x128_S8x128_0_0) = l := by
    rw [View.ld_unit_zero zeros2]
  simp only [View.readAt_eq_ld, Memref.IsWhole.read_unread, h1, h2, h3, h4]
  rfl

/-- The new codes. -/
theorem codes14 : out0_D_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xs0 xs2 xs3 xs4 = k0_pay4 x3 x5 := by
  unfold out0_D_14
  rw [View.read_writes_junk_eq_canon, run14, View.canon_unit_zero zeros2, View.readAt_eq_ld, View.readAt_eq_ld,
    Memref.IsWhole.read_unread, Memref.IsWhole.read_unread]
  exact congrArg₂ k0_pay4 (View.ld_unit_zero zeros2 _ _) (View.ld_unit_zero zeros2 _ _)

/-- The new codes. -/
theorem codes15 : out0_D_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xs0 xs2 xs3 xs4 = k0_pay4 x4 x6 := by
  unfold out0_D_15
  rw [View.read_writes_junk_eq_canon, run15, View.canon_unit_zero zeros2, View.readAt_eq_ld, View.readAt_eq_ld,
    Memref.IsWhole.read_unread, Memref.IsWhole.read_unread]
  exact congrArg₂ k0_pay4 (View.ld_unit_zero zeros2 _ _) (View.ld_unit_zero zeros2 _ _)

end Cert.Body.D

end
-- ==== Proof.Tiles.lean ====
module

public import proofs.«01_k».proof.Proof.Body
public import Idealize.ShloMosaic.Lib.Pointwise
public import Idealize.ShloMosaic.Lib.Tactic

@[expose] public section

set_option maxRecDepth 16384

/-! The functions of `Body`, read at an index, in the extended reals. -/

noncomputable section

namespace Cert.Body

open Idealize.ShloMosaic Cert.KernelIdeal Cert.KernelIdeal.Gen
open scoped BigOperators

/-- A lane's head is its number modulo four. -/
theorem cls_apply (g : Fin 8) (a : Fin 128) : cls (ix2 g a) = BitVec.ofNat 32 (a.val % 4) := by
  have h : ∀ a : Fin 128, k0_pay42 (ix2 (0 : Fin 8) a) = BitVec.ofNat 32 (a.val % 4) := by
    unfold k0_pay42
    decide
  exact h a

/-- A choice by the lane's head. -/
theorem sel_apply {α : Type} (n : ℕ) (hn : n < 4) (x y : S8x128.Idx → α) (g : Fin 8) (a : Fin 128) :
    select (cmpi .eq cls (broadcast S8x128 (BitVec.ofNat 32 n))) x y (ix2 g a)
      = if a.val % 4 = n then x (ix2 g a) else y (ix2 g a) := by
  have e : select (cmpi .eq cls (broadcast S8x128 (BitVec.ofNat 32 n))) x y (ix2 g a)
      = if BitVec.ofBool (cls (ix2 g a) == BitVec.ofNat 32 n) = 1 then x (ix2 g a) else y (ix2 g a) := rfl
  rw [e, cls_apply]
  by_cases h : a.val % 4 = n
  · subst h
    simp
  · have h' : BitVec.ofNat 32 (a.val % 4) ≠ BitVec.ofNat 32 n := by
      intro h1
      have h2 := congrArg BitVec.toNat h1
      simp only [BitVec.toNat_ofNat] at h2
      omega
    simp only [beq_eq_false_iff_ne.mpr h', if_neg h]
    rfl

/-- The entry of one of four tiles, by number. -/
def pick {α : Type} (a b c d : α) (n : ℕ) : α := if n = 0 then a else if n = 1 then b else if n = 2 then c else d

theorem byClass_apply (x y z w : FVec Ideal S8x128 .f32) (g : Fin 8) (a : Fin 128) :
    byClass x y z w (ix2 g a) = pick x y z w (a.val % 4) (ix2 g a) := by
  unfold byClass pick
  rw [sel_apply 0 (by omega), sel_apply 1 (by omega), sel_apply 2 (by omega)]
  split_ifs <;> rfl

theorem rows_apply (a b : Vec Ideal S1x512x128 .fp8e4m3) (r : Fin 512) (d : Fin 128) (h : Fin 2) :
    rows a b (ix2 r ⟨h.val * 128 + d.val, by omega⟩) = (if h.val = 0 then a else b) (ix3 0 r d) := by
  fin_cases h
  · pointwise [rows]
  · pointwise [rows]

theorem products_apply (q : Vec Ideal S64x256 .bf16) (a b : Vec Ideal S1x512x128 .fp8e4m3) (r : Fin 64) (k : Fin 512) :
    products q a b (ix2 r k) = (∑ d : Fin 128, q (ix2 r ⟨d.val, by omega⟩) * a (ix3 0 k d))
      + ∑ d : Fin 128, q (ix2 r ⟨128 + d.val, by omega⟩) * b (ix3 0 k d) := by
  pointwise [products, rows]

variable (I : In Ideal)

theorem part_apply (k n : ℕ) (hn : n < 4) (g : Fin 8) (a : Fin 128) :
    part I k n (ix2 g a) = score I (k / 8) (ix2 ⟨(k % 2 * 4 + n) * 8 + g.val, by omega⟩ ⟨k / 2 % 4 * 128 + a.val, by omega⟩) := by
  unfold part
  rw [Pointwise.extractStridedSlice_apply]
  congr 1
  funext x
  fin_cases x <;> simp [Nat.mod_eq_of_lt hn] <;> rfl

/-- A tile's entry: the lane's product times the lane's factor. -/
theorem tile_apply (k : ℕ) (g : Fin 8) (a : Fin 128) :
    tile I k (ix2 g a) = score I (k / 8) (ix2 ⟨(k % 2 * 4 + a.val % 4) * 8 + g.val, by omega⟩ ⟨k / 2 % 4 * 128 + a.val, by omega⟩)
      * (pick I.k0 I.k1 I.k2 I.k3 (a.val % 4) * Ideal.ofBits .f32 0x3DB504F3#32) := by
  have e : tile I k (ix2 g a) = byClass (part I k 0) (part I k 1) (part I k 2) (part I k 3) (ix2 g a) * scale I (ix2 g a) := rfl
  rw [e, scale, factors, byClass_apply, byClass_apply]
  have h : a.val % 4 < 4 := Nat.mod_lt _ (by omega)
  rw [← part_apply I k _ h]
  rcases (by omega : a.val % 4 = 0 ∨ a.val % 4 = 1 ∨ a.val % 4 = 2 ∨ a.val % 4 = 3) with h | h | h | h <;> rw [h] <;> rfl

theorem most_apply (K : ℕ) (i : S8x128.Idx) : most I K i = (Finset.range K).sup fun k => (tile I k i : EReal) := by
  induction K with
  | zero =>
    show Ideal.ofBits .f32 0xFF800000#32 = _
    simp [Ideal.ofBits, Ideal.ieee]
  | succ K ih =>
    have e : most I (K + 1) i = max (most I K i : EReal) (tile I K i) := rfl
    rw [e, ih, Finset.range_add_one, Finset.sup_insert, sup_comm]

theorem newTop_apply (n : ℕ) (hn : n < 4) (x old : FVec Ideal S8x128 .f32) (g : Fin 8) (a : Fin 128) :
    newTop (BitVec.ofNat 32 n) x old (ix2 g a)
      = max (old (ix2 g a) : EReal) (Finset.univ.sup fun l : Fin 128 => if l.val % 4 = n then (x (ix2 g l) : EReal) else ⊥) := by
  have e : (Finset.univ.sup fun l : Fin 128 => if l.val % 4 = n then (x (ix2 g l) : EReal) else ⊥)
      = Finset.univ.fold max ⊥ fun l : Fin 128 => select (cmpi .eq cls (broadcast S8x128 (BitVec.ofNat 32 n))) x
          (broadcast S8x128 (Scalar.ofBits .f32 0xFF800000#32)) (ix2 g l) := by
    have hb : (broadcast S8x128 (Scalar.ofBits (F := Ideal) .f32 0xFF800000#32)) = fun _ => (⊥ : EReal) := by
      funext i
      show Ideal.ofBits .f32 0xFF800000#32 = _
      simp [Ideal.ofBits, Ideal.ieee]
    have hs : ∀ l : Fin 128, select (cmpi .eq cls (broadcast S8x128 (BitVec.ofNat 32 n))) x
          (broadcast S8x128 (Scalar.ofBits .f32 0xFF800000#32)) (ix2 g l) = if l.val % 4 = n then (x (ix2 g l) : EReal) else ⊥ := by
      intro l
      rw [sel_apply n hn, hb]
    simp only [hs]
    rfl
  rw [e]
  unfold newTop
  generalize select (cmpi .eq cls (broadcast S8x128 (BitVec.ofNat 32 n))) x
          (broadcast S8x128 (Scalar.ofBits .f32 0xFF800000#32)) = y
  have hb : FloatOps.ofBits (F := Ideal) .f32 0xFF800000#32 = (⊥ : EReal) := by
    show Ideal.ofBits .f32 0xFF800000#32 = _
    simp [Ideal.ofBits, Ideal.ieee]
  pointwise [hb]

variable (s : ℕ → Vec Ideal S8x128 .f32)

theorem weights_apply (K : ℕ) (i : S8x128.Idx) :
    weights I s K i = ∑ k ∈ Finset.range K, Ideal.exp (s k i - laneTop I i) := by
  induction K with
  | zero =>
    show Ideal.ofBits .f32 0x00000000#32 = _
    simp
  | succ K ih =>
    rw [Finset.sum_range_succ, ← ih]
    rfl

theorem only_apply (n : ℕ) (hn : n < 4) (p : FVec Ideal S8x128 .f32) (g : Fin 8) (a : Fin 128) :
    only (BitVec.ofNat 32 n) p (ix2 g a) = if a.val % 4 = n then (p (ix2 g a) : EReal) else 0 := by
  unfold only
  rw [sel_apply n hn]
  have : broadcast S8x128 (Scalar.ofBits (F := Ideal) .f32 0x00000000#32) (ix2 g a) = (0 : EReal) := by
    show Ideal.ofBits .f32 0x00000000#32 = _
    simp
  rw [this]

/-- Eight tiles, one above the other. -/
theorem stack_apply (x : Fin 8 → FVec Ideal S8x128 .f32) (p : Fin 8) (g : Fin 8) (a : Fin 128) :
    concatenate S64x128 0 [⟨S8x128, x 0⟩, ⟨S8x128, x 1⟩, ⟨S8x128, x 2⟩, ⟨S8x128, x 3⟩, ⟨S8x128, x 4⟩, ⟨S8x128, x 5⟩,
      ⟨S8x128, x 6⟩, ⟨S8x128, x 7⟩]
      concatenates_S8x128_S8x128_S8x128_S8x128_S8x128_S8x128_S8x128_S8x128_S64x128_d0 (ix2 ⟨p.val * 8 + g.val, by omega⟩ a)
      = x p (ix2 g a) := by
  pointwise []
  fin_cases p <;> simp (disch := omega) only [dif_neg, dif_pos] <;>
    exact congrArg (fun i => x _ (ix2 i a)) (Fin.ext (by simp only []; omega))

theorem column_apply (p p' : FVec Ideal S8x128 .f32) (h : Fin 2) (n : Fin 4) (g : Fin 8) (a : Fin 128) :
    column p p' (ix2 ⟨h.val * 32 + n.val * 8 + g.val, by omega⟩ a)
      = if a.val % 4 = n.val then ((if h.val = 0 then p else p') (ix2 g a) : EReal) else 0 := by
  have e : column p p' (ix2 ⟨h.val * 32 + n.val * 8 + g.val, by omega⟩ a)
      = only (BitVec.ofNat 32 n.val) (if h.val = 0 then p else p') (ix2 g a) := by
    have := stack_apply ![only 0#32 p, only 1#32 p, only 2#32 p, only 3#32 p, only 0#32 p', only 1#32 p', only 2#32 p', only 3#32 p']
      ⟨h.val * 4 + n.val, by omega⟩ g a
    have e1 : (ix2 (⟨h.val * 32 + n.val * 8 + g.val, by omega⟩ : Fin 64) a) = ix2 ⟨(h.val * 4 + n.val) * 8 + g.val, by omega⟩ a := by
      congr 1; ext; simp; omega
    rw [e1]
    refine this.trans ?_
    fin_cases h <;> fin_cases n <;> rfl
  rw [e, only_apply _ n.isLt]

theorem full_apply (c : ℕ) (h : Fin 2) (n : Fin 4) (g : Fin 8) (t : Fin 4) (a : Fin 128) :
    full I s c (ix2 ⟨h.val * 32 + n.val * 8 + g.val, by omega⟩ ⟨t.val * 128 + a.val, by omega⟩)
      = if a.val % 4 = n.val then Ideal.exp (s (8 * c + 2 * t.val + h.val) (ix2 g a) - laneTop I (ix2 g a)) else 0 := by
  have e : full I s c (ix2 ⟨h.val * 32 + n.val * 8 + g.val, by omega⟩ ⟨t.val * 128 + a.val, by omega⟩)
      = column (weight I s (8 * c + 2 * t.val)) (weight I s (8 * c + 2 * t.val + 1)) (ix2 ⟨h.val * 32 + n.val * 8 + g.val, by omega⟩ a) := by
    fin_cases t
    · pointwise [full]
    · pointwise [full]
    · pointwise [full]
      simp (disch := omega) only [dif_neg, dif_pos]
      exact congrArg (fun i => column _ _ (ix2 _ i)) (Fin.ext (by simp only []; omega))
    · pointwise [full]
      simp (disch := omega) only [dif_neg, dif_pos]
      exact congrArg (fun i => column _ _ (ix2 _ i)) (Fin.ext (by simp only []; omega))
  rw [e, column_apply]
  fin_cases h <;> rfl

theorem values_apply (C : ℕ) (h : Fin 2) (n : Fin 4) (g : Fin 8) (d : Fin 128) :
    values I s C (ix2 ⟨h.val * 32 + n.val * 8 + g.val, by omega⟩ ⟨h.val * 128 + d.val, by omega⟩)
      = ∑ c ∈ Finset.range C, ∑ k : Fin 512,
          (full I s c (ix2 ⟨h.val * 32 + n.val * 8 + g.val, by omega⟩ k) : EReal) * I.vr h.val c (ix3 0 k d) := by
  induction C with
  | zero =>
    show Ideal.ofBits .f32 0x00000000#32 = _
    simp
  | succ C ih =>
    rw [Finset.sum_range_succ, ← ih]
    have e : matmul dot_S64x512_S512x256_S64x256_1_0_0_1_n_n none (full I s C)
      (rows (I.vr 0 C) (I.vr 1 C)) (constant S64x256 .f32 0x00000000#32) (ix2 ⟨h.val * 32 + n.val * 8 + g.val, by omega⟩ ⟨h.val * 128 + d.val, by omega⟩)
      = ∑ k : Fin 512,
          (full I s C (ix2 ⟨h.val * 32 + n.val * 8 + g.val, by omega⟩ k) : EReal) * I.vr h.val C (ix3 0 k d) := by
      have hr : ∀ k : Fin 512, rows (I.vr 0 C) (I.vr 1 C) (ix2 k ⟨h.val * 128 + d.val, by omega⟩) = I.vr h.val C (ix3 0 k d) := by
        intro k
        rw [rows_apply]
        fin_cases h <;> rfl
      simp only [← hr]
      generalize rows (I.vr 0 C) (I.vr 1 C) = r
      generalize full I s C = f
      pointwise []
    rw [← e]
    rfl

/-- The four maxima's factors, by head. -/
def fall (n : ℕ) : FVec Ideal S8x128 .f32 := pick (fall0 I) (fall1 I) (fall2 I) (fall3 I) n
def newMax (n : ℕ) : FVec Ideal S8x128 .f32 := pick (top0 I) (top1 I) (top2 I) (top3 I) n
def oldMax (n : ℕ) : FVec Ideal S8x128 .f32 := pick I.m0 I.m1 I.m2 I.m3 n

theorem fall_apply (n : ℕ) (i : S8x128.Idx) : fall I n i = Ideal.exp (oldMax I n i - newMax I n i) := by
  unfold fall oldMax newMax pick
  split_ifs <;> rfl

theorem newMax_apply (n : ℕ) (hn : n < 4) (g : Fin 8) (a : Fin 128) :
    newMax I n (ix2 g a) = max (oldMax I n (ix2 g a) : EReal)
      (Finset.univ.sup fun l : Fin 128 => if l.val % 4 = n then (Finset.range 256).sup fun k => (tile I k (ix2 g l) : EReal) else ⊥) := by
  simp only [← most_apply]
  rw [← newTop_apply n hn]
  interval_cases n <;> rfl

theorem rowFall_apply (h : Fin 2) (n : Fin 4) (g : Fin 8) (d : Fin 128) :
    rowFall I (ix2 ⟨h.val * 32 + n.val * 8 + g.val, by omega⟩ ⟨h.val * 128 + d.val, by omega⟩) = fall I n.val (ix2 g d) := by
  have := stack_apply ![fall0 I, fall1 I, fall2 I, fall3 I, fall0 I, fall1 I, fall2 I, fall3 I]
    ⟨h.val * 4 + n.val, by omega⟩ g d
  have e1 : (ix2 (⟨h.val * 32 + n.val * 8 + g.val, by omega⟩ : Fin 64) d) = ix2 ⟨(h.val * 4 + n.val) * 8 + g.val, by omega⟩ d := by
    congr 1; ext; simp; omega
  have e2 : rowFall I (ix2 ⟨h.val * 32 + n.val * 8 + g.val, by omega⟩ ⟨h.val * 128 + d.val, by omega⟩)
      = concatenate S64x128 0 [⟨S8x128, fall0 I⟩, ⟨S8x128, fall1 I⟩, ⟨S8x128, fall2 I⟩, ⟨S8x128, fall3 I⟩,
    ⟨S8x128, fall0 I⟩, ⟨S8x128, fall1 I⟩, ⟨S8x128, fall2 I⟩, ⟨S8x128, fall3 I⟩]
    concatenates_S8x128_S8x128_S8x128_S8x128_S8x128_S8x128_S8x128_S8x128_S64x128_d0 (ix2 ⟨h.val * 32 + n.val * 8 + g.val, by omega⟩ d) := by
    unfold rowFall
    generalize concatenate S64x128 0 _ _ = A
    fin_cases h <;> pointwise []
  rw [e2, e1]
  refine this.trans ?_
  fin_cases h <;> fin_cases n <;> rfl

/-- The weights after a step, lane by lane. -/
theorem newL_apply (g : Fin 8) (a : Fin 128) :
    newL I s (ix2 g a) = I.l (ix2 g a) * Ideal.exp (oldMax I (a.val % 4) (ix2 g a) - newMax I (a.val % 4) (ix2 g a))
      + ∑ k ∈ Finset.range 256, Ideal.exp (s k (ix2 g a) - newMax I (a.val % 4) (ix2 g a)) := by
  have e : newL I s (ix2 g a) = I.l (ix2 g a) * laneFall I (ix2 g a) + weights I s 256 (ix2 g a) := by
    unfold newL
    generalize weights I s 256 = w
    generalize laneFall I = f
    pointwise []
  rw [e, weights_apply, laneTop, laneFall, byClass_apply, byClass_apply, ← fall_apply]
  rfl

/-- The weighted values after a step. -/
theorem newO_apply (h : Fin 2) (n : Fin 4) (g : Fin 8) (d : Fin 128) :
    newO I s (ix2 ⟨h.val * 32 + n.val * 8 + g.val, by omega⟩ ⟨h.val * 128 + d.val, by omega⟩)
      = I.o (ix2 ⟨h.val * 32 + n.val * 8 + g.val, by omega⟩ ⟨h.val * 128 + d.val, by omega⟩)
          * Ideal.exp (oldMax I n.val (ix2 g d) - newMax I n.val (ix2 g d))
        + ∑ c ∈ Finset.range 32, ∑ t : Fin 4, ∑ a : Fin 128,
          (if a.val % 4 = n.val then Ideal.exp (s (8 * c + 2 * t.val + h.val) (ix2 g a) - newMax I n.val (ix2 g a)) else 0)
            * I.vr h.val c (ix3 0 ⟨t.val * 128 + a.val, by omega⟩ d) := by
  have e : newO I s (ix2 ⟨h.val * 32 + n.val * 8 + g.val, by omega⟩ ⟨h.val * 128 + d.val, by omega⟩)
      = I.o (ix2 ⟨h.val * 32 + n.val * 8 + g.val, by omega⟩ ⟨h.val * 128 + d.val, by omega⟩)
        * rowFall I (ix2 ⟨h.val * 32 + n.val * 8 + g.val, by omega⟩ ⟨h.val * 128 + d.val, by omega⟩)
        + values I s 32 (ix2 ⟨h.val * 32 + n.val * 8 + g.val, by omega⟩ ⟨h.val * 128 + d.val, by omega⟩) := by
    unfold newO
    generalize values I s 32 = w
    generalize rowFall I = f
    pointwise []
  rw [e, values_apply, rowFall_apply, fall_apply]
  congr 1
  refine Finset.sum_congr rfl fun c _ => ?_
  rw [Fin.sum_univ_tiles 4 128 rfl]
  refine Finset.sum_congr rfl fun t _ => Finset.sum_congr rfl fun a _ => ?_
  have hl : a.val % 4 = n.val → laneTop I (ix2 g a) = newMax I n.val (ix2 g a) := by
    intro ha
    rw [laneTop, byClass_apply, ha]; rfl
  rw [full_apply]
  by_cases ha : a.val % 4 = n.val
  · rw [if_pos ha, if_pos ha, hl ha]
  · rw [if_neg ha, if_neg ha]

end Cert.Body
-- ==== Proof.Softmax.lean ====
module

public import Idealize.ShloMosaic.PureOps.Ideal
public import Idealize.ShloMosaic.PureOps.Ideal.Laws

/-!
# Softmax sums that are carried along with a running maximum

The kernel visits the scores in blocks.  It carries the largest score so far and the weighted sum of the
exponentials taken against that maximum; when the maximum grows, the sum is scaled by the exponential of the old
maximum minus the new one.  Here it is proved, on the extended reals and with all their corner cases, that what is
carried is the plain sum against the current maximum.
-/

@[expose] public section

namespace Cert.Softmax

open Idealize.ShloMosaic
open scoped BigOperators

/-- Changing the maximum against which an exponential is taken. -/
theorem exp_shift {s m₁ m₂ : EReal} (h₁ : s ≤ m₁) (h₂ : m₁ ≤ m₂) :
    Ideal.exp (s - m₁) * Ideal.exp (m₁ - m₂) = Ideal.exp (s - m₂) := by
  induction s with
  | bot => simp [EReal.bot_sub]
  | top =>
    obtain rfl : m₁ = ⊤ := top_le_iff.mp h₁
    obtain rfl : m₂ = ⊤ := top_le_iff.mp h₂
    simp [sub_eq_add_neg]
  | coe r =>
    induction m₁ with
    | bot => simp at h₁
    | top =>
      obtain rfl : m₂ = ⊤ := top_le_iff.mp h₂
      simp [sub_eq_add_neg]
    | coe a =>
      induction m₂ with
      | bot => simp at h₂
      | top => simp [sub_eq_add_neg]
      | coe b =>
        rw [← EReal.coe_sub, ← EReal.coe_sub, ← EReal.coe_sub, Ideal.exp_coe, Ideal.exp_coe, Ideal.exp_coe,
          ← EReal.coe_mul, ← Real.exp_add]
        congr 2; ring

/-- An exponential is never negative. -/
theorem exp_nonneg (x : EReal) : 0 ≤ Ideal.exp x := by
  induction x with
  | bot => simp
  | top => simp
  | coe r => rw [Ideal.exp_coe]; exact_mod_cast (Real.exp_pos r).le

/-- The factor by which a carried sum is scaled is finite. -/
theorem exp_ne_top {m₁ m₂ : EReal} (h : m₁ ≤ m₂) : Ideal.exp (m₁ - m₂) ≠ ⊤ := by
  induction m₁ with
  | bot => simp [EReal.bot_sub]
  | top =>
    obtain rfl : m₂ = ⊤ := top_le_iff.mp h
    simp [sub_eq_add_neg]
  | coe a =>
    induction m₂ with
    | bot => simp at h
    | top => simp [sub_eq_add_neg]
    | coe b => rw [← EReal.coe_sub, Ideal.exp_coe]; exact EReal.coe_ne_top _

/-- A finite factor that is not negative goes into a sum. -/
theorem sum_mul {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- One block's weighted exponentials, scaled to a larger maximum. -/
theorem sum_shift {ι : Type*} [Fintype ι] (s w : ι → EReal) {m₁ m₂ : EReal} (h₁ : ∀ i, s i ≤ m₁) (h₂ : m₁ ≤ m₂) :
    (∑ i, Ideal.exp (s i - m₁) * w i) * Ideal.exp (m₁ - m₂) = ∑ i, Ideal.exp (s i - m₂) * w i := by
  rw [sum_mul _ _ (exp_nonneg _) (exp_ne_top h₂)]
  refine Finset.sum_congr rfl fun i _ => ?_
  rw [mul_right_comm, exp_shift (h₁ i) h₂]

/-- The largest score of the blocks before block `j`, taken one block at a time. -/
noncomputable def runMax (top : ℕ → EReal) : ℕ → EReal
  | 0 => ⊥
  | j + 1 => max (runMax top j) (top j)

/-- The carried sum before block `j`: scaled to the new maximum, then the block's own exponentials added. -/
noncomputable def runSum {ι : Type*} [Fintype ι] (top : ℕ → EReal) (s w : ℕ → ι → EReal) : ℕ → EReal
  | 0 => 0
  | j + 1 => runSum top s w j * Ideal.exp (runMax top j - runMax top (j + 1))
      + ∑ i, Ideal.exp (s j i - runMax top (j + 1)) * w j i

theorem runMax_mono (top : ℕ → EReal) (j : ℕ) : runMax top j ≤ runMax top (j + 1) := le_max_left _ _

theorem le_runMax (top : ℕ → EReal) {k j : ℕ} (h : k < j) : top k ≤ runMax top j := by
  induction j with
  | zero => omega
  | succ j ih =>
    rcases Nat.lt_succ_iff_lt_or_eq.mp h with h | rfl
    · exact (ih h).trans (runMax_mono top j)
    · exact le_max_right _ _

/-- The carried maximum is the largest of the blocks' maxima. -/
theorem runMax_eq_sup (top : ℕ → EReal) (j : ℕ) : runMax top j = (Finset.range j).sup top := by
  induction j with
  | zero => rfl
  | succ j ih => rw [runMax, ih, Finset.range_add_one, Finset.sup_insert, sup_comm]

/-- **What is carried is the plain sum against the current maximum.** -/
theorem runSum_eq {ι : Type*} [Fintype ι] (top : ℕ → EReal) (s w : ℕ → ι → EReal) (hs : ∀ j i, s j i ≤ top j)
    (j : ℕ) : runSum top s w j = ∑ k ∈ Finset.range j, ∑ i, Ideal.exp (s k i - runMax top j) * w k i := by
  induction j with
  | zero => rfl
  | succ j ih =>
    rw [runSum, ih, Finset.sum_range_succ, sum_mul _ _ (exp_nonneg _) (exp_ne_top (runMax_mono top j))]
    congr 1
    refine Finset.sum_congr rfl fun k hk => ?_
    exact sum_shift _ _ (fun i => (hs k i).trans (le_runMax top (Finset.mem_range.mp hk))) (runMax_mono top j)

end Cert.Softmax
-- ==== Proof.Carry.lean ====
module

public import proofs.«01_k».proof.Proof.Tiles
public import proofs.«01_k».proof.Proof.Softmax
public import Idealize.ShloMosaic.Lib.Pipeline.ValueKit.Tiles

@[expose] public section

set_option maxRecDepth 16384

/-! What a step makes of the maximum, the sum of the weights and the weighted values that the steps of a batch carry. A row
`r` of a block of the cache is token `r / 4`, head `r % 4`. -/

noncomputable section

namespace Cert.Body

open Idealize.ShloMosaic Cert.KernelIdeal Cert.KernelIdeal.Gen
open scoped BigOperators

/-- The queries beside zeros: row `h * 32 + r` has query `r` in the `h`-th half of its columns. -/
theorem queries_apply (x0 : Vec Ideal S1x32x128 .bf16) (h h' : Fin 2) (r : Fin 32) (d : Fin 128) :
    k0_pay44 x0 (ix2 ⟨h.val * 32 + r.val, by omega⟩ ⟨h'.val * 128 + d.val, by omega⟩)
      = if h = h' then (x0 (ix3 0 r d) : EReal) else 0 := by
  fin_cases h <;> fin_cases h' <;> pointwise [k0_pay44]

/-- The score of a row of a block against query `g` of its head; nothing, minus infinity, where the row has another head than `n`. -/
def rowScore (x0 : Vec Ideal S1x32x128 .bf16) (x7 : Vec Ideal S4 .f32) (x11 : Vec Ideal S1x32768x128 .fp8e4m3)
    (n : Fin 4) (g : Fin 8) (r : Fin 32768) : EReal :=
  if r.val % 4 = n.val then
    (∑ d : Fin 128, (x0 (ix3 0 ⟨n.val * 8 + g.val, by omega⟩ d) : EReal) * x11 (ix3 0 r d))
      * (x7 (ix1 n) * Ideal.ofBits .f32 0x3DB504F3#32)
  else ⊥

/-- The row of lane `a` of tile `k`. -/
def tileRow (k : ℕ) (a : Fin 128) : Fin 32768 := ⟨(k % 2 * 32 + k / 8 % 32) * 512 + (k / 2 % 4 * 128 + a.val), by omega⟩

section
variable (x0 : Vec Ideal S1x32x128 .bf16) (x7 : Vec Ideal S4 .f32) (x11 x12 : Vec Ideal S1x32768x128 .fp8e4m3)
  (m : Vec Ideal S32x128 .f32) (l : Vec Ideal S8x128 .f32) (o : Vec Ideal S64x256 .f32)

/-- What a step reads, the queries being those of the batch. -/
abbrev stepIn : In Ideal := inp x7 x11 x12 (k0_pay44 x0) m l o

theorem kr_apply (h c : ℕ) (k : Fin 512) (d : Fin 128) :
    (stepIn x0 x7 x11 x12 m l o).kr h c (ix3 0 k d) = x11 (ix3 0 ⟨(h % 2 * 32 + c % 32) * 512 + k.val, by omega⟩ d) := by
  refine View.ld_unit_apply_of x11 _ _ _ _ _ fun i => ?_
  fin_cases i <;> simp [ix3]

theorem vr_apply (h c : ℕ) (k : Fin 512) (d : Fin 128) :
    (stepIn x0 x7 x11 x12 m l o).vr h c (ix3 0 k d) = x12 (ix3 0 ⟨(h % 2 * 32 + c % 32) * 512 + k.val, by omega⟩ d) :=
  kr_apply x0 x7 x12 x11 m l o h c k d

theorem score_apply (c : ℕ) (h : Fin 2) (r : Fin 32) (k : Fin 512) :
    score (stepIn x0 x7 x11 x12 m l o) c (ix2 ⟨h.val * 32 + r.val, by omega⟩ k)
      = ∑ d : Fin 128, (x0 (ix3 0 r d) : EReal) * x11 (ix3 0 ⟨(h.val * 32 + c % 32) * 512 + k.val, by omega⟩ d) := by
  have e : score (stepIn x0 x7 x11 x12 m l o) c = products (k0_pay44 x0) ((stepIn x0 x7 x11 x12 m l o).kr 0 c)
    ((stepIn x0 x7 x11 x12 m l o).kr 1 c) := rfl
  rw [e, products_apply]
  simp only [kr_apply]
  have q0 : ∀ d : Fin 128, k0_pay44 x0 (ix2 ⟨h.val * 32 + r.val, by omega⟩ ⟨d.val, by omega⟩)
      = if h = 0 then (x0 (ix3 0 r d) : EReal) else 0 := by
    intro d
    have := queries_apply x0 h 0 r d
    simpa using this
  have q1 : ∀ d : Fin 128, k0_pay44 x0 (ix2 ⟨h.val * 32 + r.val, by omega⟩ ⟨128 + d.val, by omega⟩)
      = if h = 1 then (x0 (ix3 0 r d) : EReal) else 0 := by
    intro d
    have := queries_apply x0 h 1 r d
    simpa using this
  simp only [q0, q1]
  fin_cases h <;> simp

theorem k_apply (n : Fin 4) : pick (stepIn x0 x7 x11 x12 m l o).k0 (stepIn x0 x7 x11 x12 m l o).k1
    (stepIn x0 x7 x11 x12 m l o).k2 (stepIn x0 x7 x11 x12 m l o).k3 n.val = x7 (ix1 n) := by
  fin_cases n <;> (show x7 _ = x7 _; congr 1; funext i; fin_cases i; rfl)

/-- A tile's entry is the score of its row. -/
theorem tile_row (k : ℕ) (g : Fin 8) (a : Fin 128) (n : Fin 4) (hn : a.val % 4 = n.val) :
    tile (stepIn x0 x7 x11 x12 m l o) k (ix2 g a) = rowScore x0 x7 x11 n g (tileRow k a) := by
  rw [tile_apply]
  have hr : (tileRow k a).val % 4 = n.val := by simp only [tileRow]; omega
  rw [rowScore, if_pos hr]
  have hs := score_apply x0 x7 x11 x12 m l o (k / 8) ⟨k % 2, by omega⟩ ⟨n.val * 8 + g.val, by omega⟩ ⟨k / 2 % 4 * 128 + a.val, by omega⟩
  have hi : (⟨(k % 2 * 4 + a.val % 4) * 8 + g.val, by omega⟩ : Fin 64) = ⟨k % 2 * 32 + (n.val * 8 + g.val), by omega⟩ := by
    ext; simp only []; omega
  rw [hi, hs, hn, k_apply]
  rfl

/-- The tiles' lanes are the rows, once each. -/
theorem sum_rows (f : Fin 32768 → EReal) :
    ∑ r, f r = ∑ h : Fin 2, ∑ c : Fin 32, ∑ t : Fin 4, ∑ a : Fin 128, f (tileRow (8 * c.val + 2 * t.val + h.val) a) := by
  rw [Fin.sum_univ_tiles 64 512 rfl, Fin.sum_univ_tiles 2 32 rfl]
  refine Finset.sum_congr rfl fun h _ => Finset.sum_congr rfl fun c _ => ?_
  rw [Fin.sum_univ_tiles 4 128 rfl]
  refine Finset.sum_congr rfl fun t _ => Finset.sum_congr rfl fun a _ => congrArg f (Fin.ext ?_)
  simp only [tileRow]
  omega

theorem sum_tiles (f : ℕ → EReal) :
    ∑ k ∈ Finset.range 256, f k = ∑ h : Fin 2, ∑ c : Fin 32, ∑ t : Fin 4, f (8 * c.val + 2 * t.val + h.val) := by
  rw [Finset.sum_range, Fin.sum_univ_tiles 32 8 rfl]
  have : ∀ c : Fin 32, (∑ u : Fin 8, f (c.val * 8 + u.val)) = ∑ h : Fin 2, ∑ t : Fin 4, f (8 * c.val + 2 * t.val + h.val) := by
    intro c
    rw [Fin.sum_univ_tiles 4 2 rfl, Finset.sum_comm]
    refine Finset.sum_congr rfl fun h _ => Finset.sum_congr rfl fun t _ => congrArg f ?_
    simp only []
    omega
  simp only [this]
  exact Finset.sum_comm

/-- The maximum of a step's scores. -/
def stepTop (n : Fin 4) (g : Fin 8) : EReal := Finset.univ.sup fun r => rowScore x0 x7 x11 n g r

theorem stepTop_eq (n : Fin 4) (g : Fin 8) :
    (Finset.univ.sup fun a : Fin 128 => if a.val % 4 = n.val then
      (Finset.range 256).sup fun k => (tile (stepIn x0 x7 x11 x12 m l o) k (ix2 g a) : EReal) else ⊥) = stepTop x0 x7 x11 n g := by
  refine le_antisymm (Finset.sup_le fun a _ => ?_) (Finset.sup_le fun r _ => ?_)
  · split_ifs with h
    · refine Finset.sup_le fun k _ => ?_
      rw [tile_row x0 x7 x11 x12 m l o k g a n h]
      exact Finset.le_sup (f := fun r => rowScore x0 x7 x11 n g r) (Finset.mem_univ _)
    · exact bot_le
  · by_cases hr : r.val % 4 = n.val
    · have hk : tileRow (8 * (r.val / 512 % 32) + 2 * (r.val / 128 % 4) + r.val / 16384) ⟨r.val % 128, by omega⟩ = r := by
        have h0 : r.val / 512 % 32 < 32 := Nat.mod_lt _ (by omega)
        have h1 : r.val / 128 % 4 < 4 := Nat.mod_lt _ (by omega)
        have h2 : r.val / 16384 < 2 := by omega
        have h3 : (r.val / 16384 * 32 + r.val / 512 % 32) * 512 + (r.val / 128 % 4 * 128 + r.val % 128) = r.val := by omega
        have key : ∀ c t h : ℕ, c < 32 → t < 4 → h < 2 → (8 * c + 2 * t + h) % 2 = h ∧ (8 * c + 2 * t + h) / 8 % 32 = c
            ∧ (8 * c + 2 * t + h) / 2 % 4 = t := fun c t h _ _ _ => by omega
        obtain ⟨k0, k1, k2⟩ := key _ _ _ h0 h1 h2
        apply Fin.ext
        simp only [tileRow, k0, k1, k2]
        exact h3
      have ha : r.val % 128 % 4 = n.val := by omega
      refine le_trans ?_ (Finset.le_sup (Finset.mem_univ (⟨r.val % 128, by omega⟩ : Fin 128)))
      rw [if_pos ha]
      refine le_trans ?_ (Finset.le_sup (Finset.mem_range.mpr
        (by omega : 8 * (r.val / 512 % 32) + 2 * (r.val / 128 % 4) + r.val / 16384 < 256)))
      rw [tile_row x0 x7 x11 x12 m l o _ g _ n ha, hk]
    · rw [rowScore, if_neg hr]
      exact bot_le

/-- What a state of the carried arrays means: the maximum of each query, the sum of its weights, its weighted values. -/
structure Means (M L : Fin 4 → Fin 8 → EReal) (O : Fin 4 → Fin 8 → Fin 128 → EReal) (m : Vec Ideal S32x128 .f32)
    (l : Vec Ideal S8x128 .f32) (o : Vec Ideal S64x256 .f32) : Prop where
  max : ∀ (n : Fin 4) (g : Fin 8) (a : Fin 128), m (ix2 ⟨n.val * 8 + g.val, by omega⟩ a) = M n g
  sum : ∀ (n : Fin 4) (g : Fin 8), (∑ a : Fin 128, if a.val % 4 = n.val then (l (ix2 g a) : EReal) else 0) = L n g
  out : ∀ (n : Fin 4) (g : Fin 8) (d : Fin 128), (o (ix2 ⟨n.val * 8 + g.val, by omega⟩ ⟨d.val, by omega⟩) : EReal)
    + o (ix2 ⟨32 + n.val * 8 + g.val, by omega⟩ ⟨128 + d.val, by omega⟩) = O n g d

theorem oldMax_eq (n : Fin 4) (g : Fin 8) (a : Fin 128) :
    oldMax (stepIn x0 x7 x11 x12 m l o) n.val (ix2 g a) = m (ix2 ⟨n.val * 8 + g.val, by omega⟩ a) := by
  fin_cases n <;> (refine View.ld_unit_apply_of m _ _ _ _ _ fun i => ?_) <;> fin_cases i <;> simp [ix2]

variable {M L : Fin 4 → Fin 8 → EReal} {O : Fin 4 → Fin 8 → Fin 128 → EReal} {m l o}

theorem newMax_eq (H : Means M L O m l o) (n : Fin 4) (g : Fin 8) (a : Fin 128) :
    newMax (stepIn x0 x7 x11 x12 m l o) n.val (ix2 g a) = max (M n g) (stepTop x0 x7 x11 n g) := by
  rw [newMax_apply _ _ n.isLt, oldMax_eq, H.max, stepTop_eq]

/-- **What a step carries on.** -/
theorem means_step (H : Means M L O m l o) (m' : Vec Ideal S32x128 .f32)
    (hm : ∀ (n : Fin 4) (g : Fin 8) (a : Fin 128), m' (ix2 ⟨n.val * 8 + g.val, by omega⟩ a)
      = newMax (stepIn x0 x7 x11 x12 m l o) n.val (ix2 g a)) :
    Means (fun n g => max (M n g) (stepTop x0 x7 x11 n g))
      (fun n g => L n g * Ideal.exp (M n g - max (M n g) (stepTop x0 x7 x11 n g))
        + ∑ r, Ideal.exp (rowScore x0 x7 x11 n g r - max (M n g) (stepTop x0 x7 x11 n g)) * 1)
      (fun n g d => O n g d * Ideal.exp (M n g - max (M n g) (stepTop x0 x7 x11 n g))
        + ∑ r, Ideal.exp (rowScore x0 x7 x11 n g r - max (M n g) (stepTop x0 x7 x11 n g)) * x12 (ix3 0 r d))
      m' (newL (stepIn x0 x7 x11 x12 m l o) (tile (stepIn x0 x7 x11 x12 m l o)))
      (newO (stepIn x0 x7 x11 x12 m l o) (tile (stepIn x0 x7 x11 x12 m l o))) where
  max n g a := by rw [hm, newMax_eq x0 x7 x11 x12 H]
  sum n g := by
    set M' := max (M n g) (stepTop x0 x7 x11 n g) with hM
    have hle : M n g ≤ M' := le_max_left _ _
    rw [← H.sum, Softmax.sum_mul _ _ (Softmax.exp_nonneg _) (Softmax.exp_ne_top hle), sum_rows]
    have e : ∀ a : Fin 128, (if a.val % 4 = n.val then
        (newL (stepIn x0 x7 x11 x12 m l o) (tile (stepIn x0 x7 x11 x12 m l o)) (ix2 g a) : EReal) else 0)
        = (if a.val % 4 = n.val then (l (ix2 g a) : EReal) else 0) * Ideal.exp (M n g - M')
          + ∑ h : Fin 2, ∑ c : Fin 32, ∑ t : Fin 4,
            Ideal.exp (rowScore x0 x7 x11 n g (tileRow (8 * c.val + 2 * t.val + h.val) a) - M') * 1 := by
      intro a
      split_ifs with ha
      · rw [newL_apply, ha, newMax_eq x0 x7 x11 x12 H, oldMax_eq, H.max, sum_tiles]
        congr 1
        refine Finset.sum_congr rfl fun h _ => Finset.sum_congr rfl fun c _ => Finset.sum_congr rfl fun t _ => ?_
        rw [tile_row x0 x7 x11 x12 m l o _ g a n ha, mul_one]
      · have hr : ∀ k, rowScore x0 x7 x11 n g (tileRow k a) = ⊥ := by
          intro k
          rw [rowScore, if_neg]
          simp only [tileRow]
          omega
        simp [hr, EReal.bot_sub]
    simp only [e]
    rw [Finset.sum_add_distrib]
    congr 1
    rw [Finset.sum_comm]
    refine Finset.sum_congr rfl fun h _ => ?_
    rw [Finset.sum_comm]
    refine Finset.sum_congr rfl fun c _ => ?_
    rw [Finset.sum_comm]
  out n g d := by
    set M' := max (M n g) (stepTop x0 x7 x11 n g) with hM
    have hle : M n g ≤ M' := le_max_left _ _
    rw [← H.out, EReal.right_distrib_of_nonneg_of_ne_top (Softmax.exp_nonneg _) (Softmax.exp_ne_top hle), sum_rows, Fin.sum_univ_two]
    have e : ∀ h : Fin 2, newO (stepIn x0 x7 x11 x12 m l o) (tile (stepIn x0 x7 x11 x12 m l o))
          (ix2 ⟨h.val * 32 + n.val * 8 + g.val, by omega⟩ ⟨h.val * 128 + d.val, by omega⟩)
        = o (ix2 ⟨h.val * 32 + n.val * 8 + g.val, by omega⟩ ⟨h.val * 128 + d.val, by omega⟩) * Ideal.exp (M n g - M')
          + ∑ c : Fin 32, ∑ t : Fin 4, ∑ a : Fin 128,
            Ideal.exp (rowScore x0 x7 x11 n g (tileRow (8 * c.val + 2 * t.val + h.val) a) - M')
              * x12 (ix3 0 (tileRow (8 * c.val + 2 * t.val + h.val) a) d) := by
      intro h
      rw [newO_apply, newMax_eq x0 x7 x11 x12 H, oldMax_eq, H.max, Finset.sum_range]
      refine congrArg₂ (· + ·) rfl ?_
      refine Finset.sum_congr rfl fun c _ => Finset.sum_congr rfl fun t _ => Finset.sum_congr rfl fun a _ => ?_
      have hv : (stepIn x0 x7 x11 x12 m l o).vr h.val c.val (ix3 0 ⟨t.val * 128 + a.val, by omega⟩ d)
          = x12 (ix3 0 (tileRow (8 * c.val + 2 * t.val + h.val) a) d) := by
        rw [vr_apply]
        refine congrArg (fun r => x12 (ix3 0 r d)) (Fin.ext ?_)
        simp only [tileRow]
        omega
      rw [hv]
      split_ifs with ha
      · rw [tile_row x0 x7 x11 x12 m l o _ g a n ha, newMax_eq x0 x7 x11 x12 H]
      · have hr : rowScore x0 x7 x11 n g (tileRow (8 * c.val + 2 * t.val + h.val) a) = ⊥ := by
          rw [rowScore, if_neg]
          simp only [tileRow]
          omega
        simp [hr, EReal.bot_sub]
    have e0 := e 0
    have e1 := e 1
    have i0 : (ix2 (⟨(0 : Fin 2).val * 32 + n.val * 8 + g.val, by omega⟩ : Fin 64) (⟨(0 : Fin 2).val * 128 + d.val, by omega⟩ : Fin 256))
        = ix2 ⟨n.val * 8 + g.val, by omega⟩ ⟨d.val, by omega⟩ := by
      congr 1 <;> (ext; simp)
    have i1 : (ix2 (⟨(1 : Fin 2).val * 32 + n.val * 8 + g.val, by omega⟩ : Fin 64) (⟨(1 : Fin 2).val * 128 + d.val, by omega⟩ : Fin 256))
        = ix2 ⟨32 + n.val * 8 + g.val, by omega⟩ ⟨128 + d.val, by omega⟩ := by
      congr 1 <;> (ext; simp)
    rw [i0] at e0
    rw [i1] at e1
    rw [e0, e1]
    exact add_add_add_comm _ _ _ _

end

/-- What a batch starts from. -/
theorem means_zero : Means (fun _ _ => ⊥) (fun _ _ => 0) (fun _ _ _ => 0) (k0_pay45 (F := Ideal)) (k0_pay46 (F := Ideal))
    (k0_pay47 (F := Ideal)) where
  max n g a := by
    have : Ideal.ofBits .f32 0xFF800000#32 = (⊥ : EReal) := by simp [Ideal.ofBits, Ideal.ieee]
    pointwise [k0_pay45, this]
  sum n g := by
    have : ∀ a : Fin 128, (k0_pay46 (F := Ideal) (ix2 g a) : EReal) = 0 := by intro a; pointwise [k0_pay46]
    simp [this]
  out n g d := by
    have : ∀ i, (k0_pay47 (F := Ideal) i : EReal) = 0 := by
      intro i
      show Ideal.ofBits .f32 0x00000000#32 = _
      simp
    simp [this]

end Cert.Body
-- ==== Proof.Finish.lean ====
module

public import proofs.«01_k».proof.Proof.Carry

@[expose] public section

set_option maxRecDepth 16384

/-! The last step's results of a batch, read at an index. -/

noncomputable section

namespace Cert.Body

open Idealize.ShloMosaic Cert.KernelIdeal Cert.KernelIdeal.Gen
open scoped BigOperators

/-- A number times an inverse scale, held within the range of the codes. -/
def code (x i : EReal) : EReal :=
  min (Ideal.ofBits .f32 0x43E00000#32) (max (Ideal.ofBits .f32 0xC3E00000#32) (x * i))

theorem again_apply (x : Vec Ideal S1x1x128 .bf16) (k : Ideal .f32) (w : BitVec 32) (d : Fin 128) :
    again x k w (ix2 0 d) = code (x (ix3 0 0 d)) (inverse (F := Ideal) w) * k := by
  unfold again code
  generalize inverse (F := Ideal) w = i
  pointwise []

theorem lanes_apply (n : ℕ) (hn : n < 4) (l : FVec Ideal S8x128 .f32) (g : Fin 8) (d : Fin 128) :
    lanes (BitVec.ofNat 32 n) l (ix2 g d) = ∑ a : Fin 128, if a.val % 4 = n then (l (ix2 g a) : EReal) else 0 := by
  simp only [← only_apply n hn]
  unfold lanes
  generalize only (BitVec.ofNat 32 n) l = y
  pointwise []

theorem lastScore_apply (qr : Vec Ideal S1x8x128 .bf16) (kn : Vec Ideal S1x1x128 .bf16) (k : Ideal .f32) (w : BitVec 32)
    (g : Fin 8) (d : Fin 128) :
    lastScore qr kn k w (ix2 g d) = (∑ e : Fin 128, (qr (ix3 0 g e) : EReal)
      * (code (kn (ix3 0 0 e)) (inverse (F := Ideal) w) * k)) * Ideal.ofBits .f32 0x3DB504F3#32 := by
  simp only [← again_apply]
  unfold lastScore
  generalize again kn k w = y
  pointwise []

theorem answer_apply (n : ℕ) (hn : n < 4) (qr : Vec Ideal S1x8x128 .bf16) (kn vn : Vec Ideal S1x1x128 .bf16)
    (k v : Ideal .f32) (kw vw : BitVec 32) (l m oa ob : Vec Ideal S8x128 .f32) (g : Fin 8) (d : Fin 128) :
    answer (BitVec.ofNat 32 n) qr kn vn k v kw vw l m oa ob (ix3 0 g d) = Ideal.div
      (((oa (ix2 g d) : EReal) + ob (ix2 g d)) * v
          * Ideal.exp (m (ix2 g d) - max (m (ix2 g d) : EReal) (lastScore qr kn k kw (ix2 g d)))
        + Ideal.exp (lastScore qr kn k kw (ix2 g d) - max (m (ix2 g d) : EReal) (lastScore qr kn k kw (ix2 g d)))
          * (code (vn (ix3 0 0 d)) (inverse (F := Ideal) vw) * v))
      ((∑ a : Fin 128, if a.val % 4 = n then (l (ix2 g a) : EReal) else 0)
          * Ideal.exp (m (ix2 g d) - max (m (ix2 g d) : EReal) (lastScore qr kn k kw (ix2 g d)))
        + Ideal.exp (lastScore qr kn k kw (ix2 g d) - max (m (ix2 g d) : EReal) (lastScore qr kn k kw (ix2 g d)))) := by
  rw [← lanes_apply n hn l g d, ← again_apply]
  unfold answer
  generalize lastScore qr kn k kw = s
  generalize again vn v vw = y
  generalize lanes (F := Ideal) (BitVec.ofNat 32 n) l = z
  pointwise []

end Cert.Body
-- ==== Proof.Ends.lean ====
/- What a step's stores leave, read at an index: the maxima it keeps, and the answers of a batch's last step. -/
module

public import proofs.«01_k».proof.Proof.Finish
public import proofs.«01_k».proof.Proof.Carry
public import Idealize.ShloMosaic.Lib.Pipeline.ValueKit.Point

@[expose] public section

noncomputable section

namespace Cert.Body

open Idealize.ShloMosaic Idealize.ShloMosaic.TcCoe Cert.KernelIdeal Cert.KernelIdeal.Gen

/-- Earlier stores do not matter where a later one is. -/
theorem canon_append {S : Shape} {e : EltTy} {y : S.Idx} : ∀ (L L' : List (View.Piece (Elt Ideal) S e)), (∃ p ∈ L, y ∈ p.1.set) →
    View.canon (L ++ L') y = View.canon L y
  | [], _, h => by obtain ⟨p, hp, _⟩ := h; exact absurd hp List.not_mem_nil
  | p :: L, L', h => by
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      refine canon_append L L' ?_
      obtain ⟨q, hq, hyq⟩ := h
      rcases List.mem_cons.mp hq with rfl | hq'
      · exact absurd hyq hm
      · exact ⟨q, hq', hyq⟩

theorem idx2_eq {a b : ℕ} (x : (⟨2, ![a, b]⟩ : Shape).Idx) (i : Fin a) (j : Fin b) (h0 : (x 0 : ℕ) = i) (h1 : (x 1 : ℕ) = j) :
    x = ix2 i j := by
  funext k
  fin_cases k
  · exact Fin.ext h0
  · exact Fin.ext h1

theorem idx3_eq {a b c : ℕ} (x : (⟨3, ![a, b, c]⟩ : Shape).Idx) (i : Fin a) (j : Fin b) (k : Fin c) (h0 : (x 0 : ℕ) = i)
    (h1 : (x 1 : ℕ) = j) (h2 : (x 2 : ℕ) = k) : x = ix3 i j k := by
  funext l
  fin_cases l
  · exact Fin.ext h0
  · exact Fin.ext h1
  · exact Fin.ext h2

/-- The kept maxima, head by head. -/
theorem tops_apply (I : In Ideal) (n : Fin 4) (g : Fin 8) (a : Fin 128) :
    View.canon (Val := Elt Ideal) (tops I) (ix2 ⟨n.val * 8 + g.val, by omega⟩ a) = newMax I n.val (ix2 g a) := by
  unfold tops newMax pick
  generalize top0 I = t0
  generalize top1 I = t1
  generalize top2 I = t2
  generalize top3 I = t3
  simp only [shapeCast_self]
  canon_tiles x h
  · have h0' : n.val * 8 + g.val = 24 + (x 0 : ℕ) := h0
    have hn : n.val = 3 := by omega
    rw [hn]; exact congrArg t3 (idx2_eq x g a (by omega) h1.symm)
  · have h0' : n.val * 8 + g.val = 16 + (x 0 : ℕ) := h0
    have hn : n.val = 2 := by omega
    rw [hn]; exact congrArg t2 (idx2_eq x g a (by omega) h1.symm)
  · have h0' : n.val * 8 + g.val = 8 + (x 0 : ℕ) := h0
    have hn : n.val = 1 := by omega
    rw [hn]; exact congrArg t1 (idx2_eq x g a (by omega) h1.symm)
  · have h0' : n.val * 8 + g.val = (x 0 : ℕ) := h0
    have hn : n.val = 0 := by omega
    rw [hn]; exact congrArg t0 (idx2_eq x g a (by omega) h1.symm)

/-- … whatever was stored before. -/
theorem tops_append_apply (I : In Ideal) (L : List (View.Piece (Elt Ideal) S32x128 .f32)) (n : Fin 4) (g : Fin 8) (a : Fin 128) :
    View.canon (Val := Elt Ideal) (tops I ++ L) (ix2 ⟨n.val * 8 + g.val, by omega⟩ a) = newMax I n.val (ix2 g a) := by
  rw [canon_append (tops I) L (by unfold tops; exact View.cover_of_tiled_head _ _ _ (by rfl) _), tops_apply]

/-- The new token's score of head `n` and query `g`. -/
def tokenScore (x0 : Vec Ideal S1x32x128 .bf16) (x1 : Vec Ideal S1x4x128 .bf16) (x7 : Vec Ideal S4 .f32) (x9 : Vec Ideal S4 .i32)
    (n : Fin 4) (g : Fin 8) : EReal :=
  (∑ e : Fin 128, (x0 (ix3 0 ⟨n.val * 8 + g.val, by omega⟩ e) : EReal)
    * (code (x1 (ix3 0 n e)) (inverse (F := Ideal) (x9 (ix1 n))) * x7 (ix1 n))) * Ideal.ofBits .f32 0x3DB504F3#32

/-- The answer of head `n`, from what the batch's steps carry. -/
def answerOf (M L O v : EReal) (S y : EReal) : EReal :=
  Ideal.div (O * v * Ideal.exp (M - max M S) + Ideal.exp (S - max M S) * y)
    (L * Ideal.exp (M - max M S) + Ideal.exp (S - max M S))

variable {M L : Fin 4 → Fin 8 → EReal} {O : Fin 4 → Fin 8 → Fin 128 → EReal} {m : Vec Ideal S32x128 .f32}
  {l : Vec Ideal S8x128 .f32} {o : Vec Ideal S64x256 .f32}

set_option maxHeartbeats 1000000 in
/-- The answers of the batch's last step. -/
theorem answers_apply (H : Means M L O m l o) (x0 : Vec Ideal S1x32x128 .bf16) (x1 x2 : Vec Ideal S1x4x128 .bf16)
    (x7 x8 : Vec Ideal S4 .f32) (x9 x10 : Vec Ideal S4 .i32) (n : Fin 4) (g : Fin 8) (d : Fin 128) :
    View.canon (Val := Elt Ideal) (answers x0 x1 x2 x7 x8 x9 x10 m l o) (ix3 0 ⟨n.val * 8 + g.val, by omega⟩ d)
      = answerOf (M n g) (L n g) (O n g d) (x8 (ix1 n)) (tokenScore x0 x1 x7 x9 n g)
          (code (x2 (ix3 0 n d)) (inverse (F := Ideal) (x10 (ix1 n))) * x8 (ix1 n)) := by
  have key : ∀ (k : Fin 4) (inb0 inb1 inb2 inb3 inb4 inb5 inb6 inb7 inb8 inb9) (f0 f1 f2 f3) (x : S1x8x128.Idx),
      k = n → (x 1 : ℕ) = g.val → (x 2 : ℕ) = d.val →
      answer (BitVec.ofNat 32 k.val)
        (View.ld x0 (Rect.unit (s := S1x32x128) ![0, k.val * 8, 0] S1x8x128.size inb0))
        (View.ld x1 (Rect.unit (s := S1x4x128) ![0, k.val, 0] S1x1x128.size inb1))
        (View.ld x2 (Rect.unit (s := S1x4x128) ![0, k.val, 0] S1x1x128.size inb2))
        (View.ld x7 (Rect.unit (s := S4) ![k.val] S1.size inb3) (Shape.Idx.first f0))
        (View.ld x8 (Rect.unit (s := S4) ![k.val] S1.size inb4) (Shape.Idx.first f1))
        (View.ld x9 (Rect.unit (s := S4) ![k.val] S1.size inb5) (Shape.Idx.first f2))
        (View.ld x10 (Rect.unit (s := S4) ![k.val] S1.size inb6) (Shape.Idx.first f3))
        l (View.ld m (Rect.unit (s := S32x128) ![k.val * 8, 0] S8x128.size inb7))
        (View.ld o (Rect.unit (s := S64x256) ![k.val * 8, 0] S8x128.size inb8))
        (View.ld o (Rect.unit (s := S64x256) ![32 + k.val * 8, 128] S8x128.size inb9)) x
      = answerOf (M n g) (L n g) (O n g d) (x8 (ix1 n)) (tokenScore x0 x1 x7 x9 n g)
          (code (x2 (ix3 0 n d)) (inverse (F := Ideal) (x10 (ix1 n))) * x8 (ix1 n)) := by
    rintro k inb0 inb1 inb2 inb3 inb4 inb5 inb6 inb7 inb8 inb9 f0 f1 f2 f3 x rfl hx1 hx2
    have hx : x = ix3 0 g d := idx3_eq x 0 g d (by have := (x 0).isLt; show (x 0 : ℕ) = 0; have h1 : (x 0 : ℕ) < 1 := (x 0).isLt; omega) hx1 hx2
    have e0 : ∀ e : Fin 128, View.ld x0 (Rect.unit (s := S1x32x128) ![0, k.val * 8, 0] S1x8x128.size inb0) (ix3 0 g e)
        = x0 (ix3 0 ⟨k.val * 8 + g.val, by omega⟩ e) := fun e => by
      refine View.ld_unit_apply_of x0 _ _ _ _ _ fun i => ?_
      fin_cases i <;> simp [ix3]
    have e1 : ∀ (X : Vec Ideal S1x4x128 .bf16) (e : Fin 128) (inb),
        View.ld X (Rect.unit (s := S1x4x128) ![0, k.val, 0] S1x1x128.size inb) (ix3 0 0 e) = X (ix3 0 k e) := fun X e inb => by
      refine View.ld_unit_apply_of X _ _ _ _ _ fun i => ?_
      fin_cases i <;> simp [ix3]
    have e2 : ∀ (E : EltTy) (X : Vec Ideal S4 E) (inb) (f),
        View.ld X (Rect.unit (s := S4) ![k.val] S1.size inb) (Shape.Idx.first f) = X (ix1 k) := fun E X inb f => by
      refine View.ld_unit_apply_of X _ _ _ _ _ fun i => ?_
      fin_cases i; simp [ix1, Shape.Idx.first]
    have e3 : View.ld m (Rect.unit (s := S32x128) ![k.val * 8, 0] S8x128.size inb7) (ix2 g d) = M k g := by
      rw [← H.max k g d]
      refine View.ld_unit_apply_of m _ _ _ _ _ fun i => ?_
      fin_cases i <;> simp [ix2]
    have e4 : (View.ld o (Rect.unit (s := S64x256) ![k.val * 8, 0] S8x128.size inb8) (ix2 g d) : EReal)
        + View.ld o (Rect.unit (s := S64x256) ![32 + k.val * 8, 128] S8x128.size inb9) (ix2 g d) = O k g d := by
      rw [← H.out k g d]
      congr 1
      · refine View.ld_unit_apply_of o _ _ _ _ _ fun i => ?_
        fin_cases i <;> simp [ix2]
      · refine View.ld_unit_apply_of o _ _ _ _ _ fun i => ?_
        fin_cases i <;> simp [ix2, Nat.add_assoc]
    rw [hx, answer_apply k.val k.isLt, lastScore_apply, e3, e4, H.sum k g]
    rw [e2 _ x7 inb3 f0, e2 _ x8 inb4 f1, e2 _ x9 inb5 f2, e2 _ x10 inb6 f3, e1 x2 d inb2]
    rw [Finset.sum_congr rfl fun e _ => by rw [e0 e, e1 x1 e inb1]]
    rfl
  unfold answers
  canon_tiles x h
  · have h1' : n.val * 8 + g.val = 24 + (x 1 : ℕ) := h1
    exact key 3 _ _ _ _ _ _ _ _ _ _ _ _ _ _ x (Fin.ext (by show 3 = n.val; omega)) (by omega) h2.symm
  · have h1' : n.val * 8 + g.val = 16 + (x 1 : ℕ) := h1
    exact key 2 _ _ _ _ _ _ _ _ _ _ _ _ _ _ x (Fin.ext (by show 2 = n.val; omega)) (by omega) h2.symm
  · have h1' : n.val * 8 + g.val = 8 + (x 1 : ℕ) := h1
    exact key 1 _ _ _ _ _ _ _ _ _ _ _ _ _ _ x (Fin.ext (by show 1 = n.val; omega)) (by omega) h2.symm
  · have h1' : n.val * 8 + g.val = (x 1 : ℕ) := h1
    exact key 0 _ _ _ _ _ _ _ _ _ _ _ _ _ _ x (Fin.ext (by show 0 = n.val; omega)) (by omega) h2.symm

end Cert.Body

end
-- ==== Proof.Steps.lean ====
/- What the steps of a batch carry from one to the next, and the answers the batch's last step gives. -/
module

public import proofs.«01_k».proof.Proof.StepA
public import proofs.«01_k».proof.Proof.StepB
public import proofs.«01_k».proof.Proof.StepC
public import proofs.«01_k».proof.Proof.StepD
public import proofs.«01_k».proof.Proof.Ends
public import proofs.«01_k».proof.Proof.Gen.KernelIdeal.Value

@[expose] public section

set_option maxRecDepth 16384

noncomputable section

namespace Cert.Body

open Idealize.ShloMosaic Idealize.ShloMosaic.TcCoe Cert.KernelIdeal Cert.KernelIdeal.Gen Cert.KernelIdeal.Value
open scoped BigOperators

variable (m : (ℓ : Loc nD τ sig) → Buf (Elt Ideal) ℓ) (c : Dev nD)

/-- What the outputs and the carried arrays hold. -/
abbrev State : Type := Vec Ideal S1x32x128 .bf16 × Vec Ideal S128x128 .fp8e4m3 × Vec Ideal S128x128 .fp8e4m3 × Vec Ideal S64x256 .bf16
  × Vec Ideal S32x128 .f32 × Vec Ideal S8x128 .f32 × Vec Ideal S64x256 .f32

/-- The state carries the queries `x0`, and its arrays mean `M`, `L` and `O`. -/
def Carried (x0 : Vec Ideal S1x32x128 .bf16) (M L : Fin 4 → Fin 8 → EReal) (O : Fin 4 → Fin 8 → Fin 128 → EReal) (s : State) : Prop :=
  s.2.2.2.1 = k0_pay44 x0 ∧ Means M L O s.2.2.2.2.1 s.2.2.2.2.2.1 s.2.2.2.2.2.2

section
variable (x0 : Vec Ideal S1x32x128 .bf16) (x7 : Vec Ideal S4 .f32) (x11 x12 : Vec Ideal S1x32768x128 .fp8e4m3)
  (M L : Fin 4 → Fin 8 → EReal) (O : Fin 4 → Fin 8 → Fin 128 → EReal)

/-- The maximum after a step. -/
def maxNext (n : Fin 4) (g : Fin 8) : EReal := max (M n g) (stepTop x0 x7 x11 n g)

/-- The weights' sum after a step. -/
def sumNext (n : Fin 4) (g : Fin 8) : EReal := L n g * Ideal.exp (M n g - max (M n g) (stepTop x0 x7 x11 n g))
  + ∑ r, Ideal.exp (rowScore x0 x7 x11 n g r - max (M n g) (stepTop x0 x7 x11 n g)) * 1

/-- The weighted values after a step. -/
def outNext (n : Fin 4) (g : Fin 8) (d : Fin 128) : EReal := O n g d * Ideal.exp (M n g - max (M n g) (stepTop x0 x7 x11 n g))
  + ∑ r, Ideal.exp (rowScore x0 x7 x11 n g r - max (M n g) (stepTop x0 x7 x11 n g)) * x12 (ix3 0 r d)

end

/-- The first step of a batch. -/
theorem step_first (t : Fin cfg0.N) (s : State) (h1 : t.val % 4 = 0) :
    Carried (iblk m c 0 t)
      (maxNext (iblk m c 0 t) (iblk m c 7 t) (iblk m c 11 t) fun _ _ => ⊥)
      (sumNext (iblk m c 0 t) (iblk m c 7 t) (iblk m c 11 t) (fun _ _ => ⊥) fun _ _ => 0)
      (outNext (iblk m c 0 t) (iblk m c 7 t) (iblk m c 11 t) (iblk m c 12 t) (fun _ _ => ⊥) fun _ _ _ => 0)
      (stAt0 m c t.val t.isLt s) := by
  rw [stAt0_A m c t s (by omega) h1 (by omega)]
  unfold Carried
  dsimp only
  rw [A.queries, A.maxima, A.sums, A.outs]
  refine ⟨rfl, ?_⟩
  exact means_step (iblk m c 0 t) (iblk m c 7 t) (iblk m c 11 t) (iblk m c 12 t) means_zero _ fun n g a => tops_append_apply _ _ n g a

/-- A later step of a batch. -/
theorem step_next (t : Fin cfg0.N) (s : State) (h1 : ¬t.val % 4 = 0) (x0 : Vec Ideal S1x32x128 .bf16) {M L : Fin 4 → Fin 8 → EReal}
    {O : Fin 4 → Fin 8 → Fin 128 → EReal} (H : Carried x0 M L O s) :
    Carried x0 (maxNext x0 (iblk m c 7 t) (iblk m c 11 t) M) (sumNext x0 (iblk m c 7 t) (iblk m c 11 t) M L)
      (outNext x0 (iblk m c 7 t) (iblk m c 11 t) (iblk m c 12 t) M O) (stAt0 m c t.val t.isLt s) := by
  obtain ⟨hq, H⟩ := H
  have key := means_step x0 (iblk m c 7 t) (iblk m c 11 t) (iblk m c 12 t) H _ fun n g a => tops_apply _ n g a
  by_cases h2 : t.val % 4 = 3
  · by_cases h0 : t.val % 128 = 127
    · rw [stAt0_D m c t s h0 h1 h2]
      unfold Carried
      dsimp only
      rw [D.maxima, D.sums, D.outs, hq]
      exact ⟨rfl, key⟩
    · rw [stAt0_C m c t s h0 h1 h2]
      unfold Carried
      dsimp only
      rw [C.maxima, C.sums, C.outs, hq]
      exact ⟨rfl, key⟩
  · rw [stAt0_B m c t s (by omega) h1 h2]
    unfold Carried
    dsimp only
    rw [B.maxima, B.sums, B.outs, hq]
    exact ⟨rfl, key⟩

/-- The answers of a batch's last step. -/
theorem step_answers (t : Fin cfg0.N) (s : State) (h2 : t.val % 4 = 3) :
    (stAt0 m c t.val t.isLt s).1 = View.canon (Val := Elt Ideal) (answers (iblk m c 0 t) (iblk m c 1 t) (iblk m c 2 t) (iblk m c 7 t) (iblk m c 8 t)
      (iblk m c 9 t) (iblk m c 10 t) (stAt0 m c t.val t.isLt s).2.2.2.2.1 (stAt0 m c t.val t.isLt s).2.2.2.2.2.1
      (stAt0 m c t.val t.isLt s).2.2.2.2.2.2) := by
  by_cases h0 : t.val % 128 = 127
  · rw [stAt0_D m c t s h0 (by omega) h2]
    dsimp only
    rw [D.maxima, D.sums, D.outs, D.results]
  · rw [stAt0_C m c t s h0 (by omega) h2]
    dsimp only
    rw [C.maxima, C.sums, C.outs, C.results]

/-- The codes the last step stores, of the keys. -/
theorem step_codes14 (t : Fin cfg0.N) (s : State) (h0 : t.val % 128 = 127) :
    (stAt0 m c t.val t.isLt s).2.1 = k0_pay4 (iblk m c 3 t) (iblk m c 5 t) := by
  rw [stAt0_D m c t s h0 (by omega) (by omega)]
  dsimp only
  rw [D.codes14]

/-- The codes the last step stores, of the values. -/
theorem step_codes15 (t : Fin cfg0.N) (s : State) (h0 : t.val % 128 = 127) :
    (stAt0 m c t.val t.isLt s).2.2.1 = k0_pay4 (iblk m c 4 t) (iblk m c 6 t) := by
  rw [stAt0_D m c t s h0 (by omega) (by omega)]
  dsimp only
  rw [D.codes15]

end Cert.Body

end
-- ==== Proof.KernelHost.lean ====
/- What the kernel's host gives to its region, and the blocks the region reads of it. -/
module

public import proofs.«01_k».proof.Proof.Gen.KernelIdeal.Frame
public import Idealize.ShloMosaic.Lib.Pointwise
public import Idealize.ShloMosaic.Lib.StableHlo.Run
public import Idealize.ShloMosaic.Lib.Pipeline.ValueKit.Point

@[expose] public section

set_option maxRecDepth 16384

noncomputable section

namespace Cert.Host

open Cert.KernelIdeal Cert.KernelIdeal.Gen Idealize.ShloMosaic Idealize.ShloMosaic.TcCoe Idealize.SL.Sem Idealize.ShloMosaic.StableHlo

variable {F : FTy → Type} [FloatOps F]

/-- The words of the rows of all new tokens, head after head. -/
def rows (w : Vec F S4 .i32) : Vec F S128x1 .i32 :=
  broadcastInDim S128x1 ![0] bcast_S128_S128x1_0
    (shapeCast S128 (broadcastInDim S32x4 ![0, 1] bcast_S1x4_S32x4_0_1 (shapeCast S1x4 w shapeCasts_S4_S1x4)) shapeCasts_S32x4_S128)

set_option maxHeartbeats 4000000 in
/-- The operations before the region from any contents `V0`, read at the queries. -/
theorem head_v0 (V0 : Valuation τ sig (Elt F)) :
    after hostOps0 V0 (Proc.devRef .tc main_v0) = shapeCast S32x32x128 (V0 (Proc.devRef .tc main_arg0)) shapeCasts_S32x1x4096_S32x32x128 := by
  simp only [hostOps0]
  after_results_simp <;> rfl

set_option maxHeartbeats 4000000 in
/-- The operations before the region from any contents `V0`, read at the keys' new rows. -/
theorem head_v1 (V0 : Valuation τ sig (Elt F)) :
    after hostOps0 V0 (Proc.devRef .tc main_v1) = shapeCast S32x4x128 (V0 (Proc.devRef .tc main_arg1)) shapeCasts_S32x1x4x128_S32x4x128 := by
  simp only [hostOps0]
  after_results_simp <;> rfl

set_option maxHeartbeats 4000000 in
/-- The operations before the region from any contents `V0`, read at the values' new rows. -/
theorem head_v2 (V0 : Valuation τ sig (Elt F)) :
    after hostOps0 V0 (Proc.devRef .tc main_v2) = shapeCast S32x4x128 (V0 (Proc.devRef .tc main_arg2)) shapeCasts_S32x1x4x128_S32x4x128 := by
  simp only [hostOps0]
  after_results_simp <;> rfl

set_option maxHeartbeats 4000000 in
/-- The operations before the region from any contents `V0`, read at all of the keys' new rows. -/
theorem head_v3 (V0 : Valuation τ sig (Elt F)) :
    after hostOps0 V0 (Proc.devRef .tc main_v3) = shapeCast S128x128 (V0 (Proc.devRef .tc main_arg1)) shapeCasts_S32x1x4x128_S128x128 := by
  simp only [hostOps0]
  after_results_simp <;> rfl

set_option maxHeartbeats 4000000 in
/-- The operations before the region from any contents `V0`, read at all of the values' new rows. -/
theorem head_v4 (V0 : Valuation τ sig (Elt F)) :
    after hostOps0 V0 (Proc.devRef .tc main_v4) = shapeCast S128x128 (V0 (Proc.devRef .tc main_arg2)) shapeCasts_S32x1x4x128_S128x128 := by
  simp only [hostOps0]
  after_results_simp <;> rfl

set_option maxHeartbeats 4000000 in
/-- The operations before the region from any contents `V0`, read at the keys' scales. -/
theorem head_v5 (V0 : Valuation τ sig (Elt F)) :
    after hostOps0 V0 (Proc.devRef .tc main_v5) = bitcastToFloat (F := F) .f32 (V0 (Proc.devRef .tc main_arg4)) := by
  simp only [hostOps0]
  after_results_simp <;> rfl

set_option maxHeartbeats 4000000 in
/-- The operations before the region from any contents `V0`, read at the values' scales. -/
theorem head_v6 (V0 : Valuation τ sig (Elt F)) :
    after hostOps0 V0 (Proc.devRef .tc main_v6) = bitcastToFloat (F := F) .f32 (V0 (Proc.devRef .tc main_arg6)) := by
  simp only [hostOps0]
  after_results_simp <;> rfl

set_option maxHeartbeats 4000000 in
/-- The operations before the region from any contents `V0`, read at the rows' words, of the keys. -/
theorem head_v10 (V0 : Valuation τ sig (Elt F)) :
    after hostOps0 V0 (Proc.devRef .tc main_v10) = rows (F := F) (V0 (Proc.devRef .tc main_arg4)) := by
  simp only [hostOps0]
  after_results_simp <;> rfl

set_option maxHeartbeats 4000000 in
/-- The operations before the region from any contents `V0`, read at the rows' words, of the values. -/
theorem head_v14 (V0 : Valuation τ sig (Elt F)) :
    after hostOps0 V0 (Proc.devRef .tc main_v14) = rows (F := F) (V0 (Proc.devRef .tc main_arg6)) := by
  simp only [hostOps0]
  after_results_simp <;> rfl

set_option maxHeartbeats 4000000 in
/-- The operations before the region from any contents `V0`, read at the cached keys. -/
theorem head_v15 (V0 : Valuation τ sig (Elt F)) :
    after hostOps0 V0 (Proc.devRef .tc main_v15) = shapeCast S32x131072x128 (V0 (Proc.devRef .tc main_arg3)) shapeCasts_S32x32768x4x128_S32x131072x128 := by
  simp only [hostOps0]
  after_results_simp <;> rfl

set_option maxHeartbeats 4000000 in
/-- The operations before the region from any contents `V0`, read at the cached values. -/
theorem head_v16 (V0 : Valuation τ sig (Elt F)) :
    after hostOps0 V0 (Proc.devRef .tc main_v16) = shapeCast S32x131072x128 (V0 (Proc.devRef .tc main_arg5)) shapeCasts_S32x32768x4x128_S32x131072x128 := by
  simp only [hostOps0]
  after_results_simp <;> rfl

variable (m : (ℓ : Loc nD τ sig) → Buf (Elt F) ℓ) (c : Dev nD)

/-- The region finds the queries. -/
theorem V_v0 : V m c main_v0 = shapeCast S32x32x128 (m ((c.tc : Thread nD τ).loc main_arg0)) shapeCasts_S32x1x4096_S32x32x128 := head_v0 _

/-- The region finds the keys' new rows. -/
theorem V_v1 : V m c main_v1 = shapeCast S32x4x128 (m ((c.tc : Thread nD τ).loc main_arg1)) shapeCasts_S32x1x4x128_S32x4x128 := head_v1 _

/-- The region finds the values' new rows. -/
theorem V_v2 : V m c main_v2 = shapeCast S32x4x128 (m ((c.tc : Thread nD τ).loc main_arg2)) shapeCasts_S32x1x4x128_S32x4x128 := head_v2 _

/-- The region finds all of the keys' new rows. -/
theorem V_v3 : V m c main_v3 = shapeCast S128x128 (m ((c.tc : Thread nD τ).loc main_arg1)) shapeCasts_S32x1x4x128_S128x128 := head_v3 _

/-- The region finds all of the values' new rows. -/
theorem V_v4 : V m c main_v4 = shapeCast S128x128 (m ((c.tc : Thread nD τ).loc main_arg2)) shapeCasts_S32x1x4x128_S128x128 := head_v4 _

/-- The region finds the keys' scales. -/
theorem V_v5 : V m c main_v5 = bitcastToFloat (F := F) .f32 (m ((c.tc : Thread nD τ).loc main_arg4)) := head_v5 _

/-- The region finds the values' scales. -/
theorem V_v6 : V m c main_v6 = bitcastToFloat (F := F) .f32 (m ((c.tc : Thread nD τ).loc main_arg6)) := head_v6 _

/-- The region finds the rows' words, of the keys. -/
theorem V_v10 : V m c main_v10 = rows (F := F) (m ((c.tc : Thread nD τ).loc main_arg4)) := head_v10 _

/-- The region finds the rows' words, of the values. -/
theorem V_v14 : V m c main_v14 = rows (F := F) (m ((c.tc : Thread nD τ).loc main_arg6)) := head_v14 _

/-- The region finds the cached keys. -/
theorem V_v15 : V m c main_v15 = shapeCast S32x131072x128 (m ((c.tc : Thread nD τ).loc main_arg3)) shapeCasts_S32x32768x4x128_S32x131072x128 := head_v15 _

/-- The region finds the cached values. -/
theorem V_v16 : V m c main_v16 = shapeCast S32x131072x128 (m ((c.tc : Thread nD τ).loc main_arg5)) shapeCasts_S32x32768x4x128_S32x131072x128 := head_v16 _

/-! ## The blocks -/

theorem points (t : Fin cfg0.N) : t.val < 128 := lt_of_lt_of_eq t.isLt N_0

theorem index0 : ∀ t : Fin cfg0.N, win0_0.index t (0 : Fin 3) = t.val / 4 ∧ win0_0.index t (1 : Fin 3) = 0 ∧ win0_0.index t (2 : Fin 3) = 0 :=
  (by decide +kernel : ∀ t : Fin grid0.N, _)

/-- Window 0's block is its batch's. -/
theorem read0 (t : Fin cfg0.N) (X : Buf (Elt F) ((c.tc : Thread nD τ).loc main_v0)) :
    ((cfg0.win 0).blk t).view.read (Elt F) X = fun y : S1x32x128.Idx => X (ix3 ⟨t.val / 4, by have := points t; omega⟩ (y 1) (y 2)) := by
  obtain ⟨h0, h1, h2⟩ := index0 t
  funext y
  blk_ext [h0, h1, h2]

theorem index1 : ∀ t : Fin cfg0.N, win0_1.index t (0 : Fin 3) = t.val / 4 ∧ win0_1.index t (1 : Fin 3) = 0 ∧ win0_1.index t (2 : Fin 3) = 0 :=
  (by decide +kernel : ∀ t : Fin grid0.N, _)

/-- Window 1's block is its batch's. -/
theorem read1 (t : Fin cfg0.N) (X : Buf (Elt F) ((c.tc : Thread nD τ).loc main_v1)) :
    ((cfg0.win 1).blk t).view.read (Elt F) X = fun y : S1x4x128.Idx => X (ix3 ⟨t.val / 4, by have := points t; omega⟩ (y 1) (y 2)) := by
  obtain ⟨h0, h1, h2⟩ := index1 t
  funext y
  blk_ext [h0, h1, h2]

theorem index2 : ∀ t : Fin cfg0.N, win0_2.index t (0 : Fin 3) = t.val / 4 ∧ win0_2.index t (1 : Fin 3) = 0 ∧ win0_2.index t (2 : Fin 3) = 0 :=
  (by decide +kernel : ∀ t : Fin grid0.N, _)

/-- Window 2's block is its batch's. -/
theorem read2 (t : Fin cfg0.N) (X : Buf (Elt F) ((c.tc : Thread nD τ).loc main_v2)) :
    ((cfg0.win 2).blk t).view.read (Elt F) X = fun y : S1x4x128.Idx => X (ix3 ⟨t.val / 4, by have := points t; omega⟩ (y 1) (y 2)) := by
  obtain ⟨h0, h1, h2⟩ := index2 t
  funext y
  blk_ext [h0, h1, h2]

theorem index3 : ∀ t : Fin cfg0.N, win0_3.index t (0 : Fin 2) = 0 ∧ win0_3.index t (1 : Fin 2) = 0 :=
  (by decide +kernel : ∀ t : Fin grid0.N, _)

/-- Window 3's block is its array. -/
theorem read3 (t : Fin cfg0.N) (X : Buf (Elt F) ((c.tc : Thread nD τ).loc main_v3)) :
    ((cfg0.win 3).blk t).view.read (Elt F) X = X := by
  obtain ⟨h0, h1⟩ := index3 t
  funext y
  blk_ext [h0, h1]

theorem index4 : ∀ t : Fin cfg0.N, win0_4.index t (0 : Fin 2) = 0 ∧ win0_4.index t (1 : Fin 2) = 0 :=
  (by decide +kernel : ∀ t : Fin grid0.N, _)

/-- Window 4's block is its array. -/
theorem read4 (t : Fin cfg0.N) (X : Buf (Elt F) ((c.tc : Thread nD τ).loc main_v4)) :
    ((cfg0.win 4).blk t).view.read (Elt F) X = X := by
  obtain ⟨h0, h1⟩ := index4 t
  funext y
  blk_ext [h0, h1]

theorem index5 : ∀ t : Fin cfg0.N, win0_5.index t (0 : Fin 2) = 0 ∧ win0_5.index t (1 : Fin 2) = 0 :=
  (by decide +kernel : ∀ t : Fin grid0.N, _)

/-- Window 5's block is its array. -/
theorem read5 (t : Fin cfg0.N) (X : Buf (Elt F) ((c.tc : Thread nD τ).loc main_v10)) :
    ((cfg0.win 5).blk t).view.read (Elt F) X = X := by
  obtain ⟨h0, h1⟩ := index5 t
  funext y
  blk_ext [h0, h1]

theorem index6 : ∀ t : Fin cfg0.N, win0_6.index t (0 : Fin 2) = 0 ∧ win0_6.index t (1 : Fin 2) = 0 :=
  (by decide +kernel : ∀ t : Fin grid0.N, _)

/-- Window 6's block is its array. -/
theorem read6 (t : Fin cfg0.N) (X : Buf (Elt F) ((c.tc : Thread nD τ).loc main_v14)) :
    ((cfg0.win 6).blk t).view.read (Elt F) X = X := by
  obtain ⟨h0, h1⟩ := index6 t
  funext y
  blk_ext [h0, h1]

theorem index7 : ∀ t : Fin cfg0.N, win0_7.index t (0 : Fin 1) = 0 :=
  (by decide +kernel : ∀ t : Fin grid0.N, _)

/-- Window 7's block is its array. -/
theorem read7 (t : Fin cfg0.N) (X : Buf (Elt F) ((c.tc : Thread nD τ).loc main_v5)) :
    ((cfg0.win 7).blk t).view.read (Elt F) X = X := by
  have h0 := index7 t
  funext y
  blk_ext [h0]

theorem index8 : ∀ t : Fin cfg0.N, win0_8.index t (0 : Fin 1) = 0 :=
  (by decide +kernel : ∀ t : Fin grid0.N, _)

/-- Window 8's block is its array. -/
theorem read8 (t : Fin cfg0.N) (X : Buf (Elt F) ((c.tc : Thread nD τ).loc main_v6)) :
    ((cfg0.win 8).blk t).view.read (Elt F) X = X := by
  have h0 := index8 t
  funext y
  blk_ext [h0]

theorem index9 : ∀ t : Fin cfg0.N, win0_9.index t (0 : Fin 1) = 0 :=
  (by decide +kernel : ∀ t : Fin grid0.N, _)

/-- Window 9's block is its array. -/
theorem read9 (t : Fin cfg0.N) (X : Buf (Elt F) ((c.tc : Thread nD τ).loc main_arg4)) :
    ((cfg0.win 9).blk t).view.read (Elt F) X = X := by
  have h0 := index9 t
  funext y
  blk_ext [h0]

theorem index10 : ∀ t : Fin cfg0.N, win0_10.index t (0 : Fin 1) = 0 :=
  (by decide +kernel : ∀ t : Fin grid0.N, _)

/-- Window 10's block is its array. -/
theorem read10 (t : Fin cfg0.N) (X : Buf (Elt F) ((c.tc : Thread nD τ).loc main_arg6)) :
    ((cfg0.win 10).blk t).view.read (Elt F) X = X := by
  have h0 := index10 t
  funext y
  blk_ext [h0]

theorem index11 : ∀ t : Fin cfg0.N, win0_11.index t (0 : Fin 3) = t.val / 4 ∧ win0_11.index t (1 : Fin 3) = t.val % 4 ∧ win0_11.index t (2 : Fin 3) = 0 :=
  (by decide +kernel : ∀ t : Fin grid0.N, _)

/-- Window 11's block is its step's part of its batch. -/
theorem read11 (t : Fin cfg0.N) (X : Buf (Elt F) ((c.tc : Thread nD τ).loc main_v15)) :
    ((cfg0.win 11).blk t).view.read (Elt F) X = fun y : S1x32768x128.Idx =>
      X (ix3 ⟨t.val / 4, by have := points t; omega⟩ ⟨t.val % 4 * 32768 + (y 1).val, by have : (y 1).val < 32768 := (y 1).isLt; omega⟩ (y 2)) := by
  obtain ⟨h0, h1, h2⟩ := index11 t
  funext y
  blk_ext [h0, h1, h2]

theorem index12 : ∀ t : Fin cfg0.N, win0_12.index t (0 : Fin 3) = t.val / 4 ∧ win0_12.index t (1 : Fin 3) = t.val % 4 ∧ win0_12.index t (2 : Fin 3) = 0 :=
  (by decide +kernel : ∀ t : Fin grid0.N, _)

/-- Window 12's block is its step's part of its batch. -/
theorem read12 (t : Fin cfg0.N) (X : Buf (Elt F) ((c.tc : Thread nD τ).loc main_v16)) :
    ((cfg0.win 12).blk t).view.read (Elt F) X = fun y : S1x32768x128.Idx =>
      X (ix3 ⟨t.val / 4, by have := points t; omega⟩ ⟨t.val % 4 * 32768 + (y 1).val, by have : (y 1).val < 32768 := (y 1).isLt; omega⟩ (y 2)) := by
  obtain ⟨h0, h1, h2⟩ := index12 t
  funext y
  blk_ext [h0, h1, h2]

end Cert.Host

end
-- ==== Proof.Join.lean ====
module

public import proofs.«01_k».proof.Proof.Softmax
public import Idealize.ShloMosaic.Lib.Pointwise.Sums

/-!
# A batch's steps, joined

Each of the four steps of a batch takes 8192 of the 32768 tokens; its block has four rows for a token, one for each head.
Here sums and maxima over the rows of one head in the four blocks become sums and maxima over the tokens, and the softmax
with the new token joined at the end becomes one softmax.
-/

@[expose] public section

namespace Cert.Softmax

open Idealize.ShloMosaic
open scoped BigOperators

/-- The token of row `r` of the block of step `j`. -/
def token (j : Fin 4) (r : Fin 32768) : Fin 32768 := ⟨j.val * 8192 + r.val / 4, by omega⟩

/-- A sum over a head's rows in all blocks is a sum over the tokens. -/
theorem sum_tokens (n : Fin 4) (f : Fin 32768 → EReal) (g : ℕ → Fin 32768 → EReal)
    (h1 : ∀ (j : Fin 4) (r : Fin 32768), r.val % 4 = n.val → g j.val r = f (token j r))
    (h0 : ∀ (j : Fin 4) (r : Fin 32768), r.val % 4 ≠ n.val → g j.val r = 0) :
    ∑ j ∈ Finset.range 4, ∑ r, g j r = ∑ t, f t := by
  rw [Finset.sum_range, Fin.sum_univ_tiles 4 8192 rfl f]
  refine Finset.sum_congr rfl fun j _ => ?_
  rw [Fin.sum_univ_tiles 8192 4 rfl]
  refine Finset.sum_congr rfl fun t _ => ?_
  rw [Finset.sum_eq_single n]
  · rw [h1 j _ (by simp only []; omega)]
    refine congrArg f (Fin.ext ?_)
    simp only [token]
    omega
  · intro u _ hu
    refine h0 j _ ?_
    have := Fin.val_ne_of_ne hu
    simp only []
    omega
  · intro h
    exact absurd (Finset.mem_univ _) h

/-- The largest score of a head's rows in all blocks is the largest score of the tokens. -/
theorem max_tokens (n : Fin 4) (f : Fin 32768 → EReal) (s : ℕ → Fin 32768 → EReal)
    (h1 : ∀ (j : Fin 4) (r : Fin 32768), r.val % 4 = n.val → s j.val r = f (token j r))
    (h0 : ∀ (j : Fin 4) (r : Fin 32768), r.val % 4 ≠ n.val → s j.val r = ⊥) :
    runMax (fun j => Finset.univ.sup (s j)) 4 = Finset.univ.fold max ⊥ f := by
  rw [runMax_eq_sup]
  show _ = Finset.univ.sup f
  refine le_antisymm (Finset.sup_le fun j hj => Finset.sup_le fun r _ => ?_) (Finset.sup_le fun t _ => ?_)
  · by_cases hr : r.val % 4 = n.val
    · rw [h1 ⟨j, Finset.mem_range.mp hj⟩ r hr]
      exact Finset.le_sup (Finset.mem_univ _)
    · rw [h0 ⟨j, Finset.mem_range.mp hj⟩ r hr]
      exact bot_le
  · have hr : (⟨t.val % 8192 * 4 + n.val, by omega⟩ : Fin 32768).val % 4 = n.val := by simp only []; omega
    have e := h1 ⟨t.val / 8192, by omega⟩ ⟨t.val % 8192 * 4 + n.val, by omega⟩ hr
    have ht : token ⟨t.val / 8192, by omega⟩ ⟨t.val % 8192 * 4 + n.val, by omega⟩ = t := by
      apply Fin.ext
      simp only [token]
      omega
    rw [ht] at e
    rw [← e]
    exact (Finset.le_sup (f := s (t.val / 8192)) (Finset.mem_univ _)).trans
      (Finset.le_sup (f := fun j => Finset.univ.sup (s j)) (Finset.mem_range.mpr (by omega)))

/-- **The softmax of the four blocks, joined with the new token, is one softmax over all tokens.** -/
theorem join (n : Fin 4) (P V : Fin 32768 → EReal) (s w : ℕ → Fin 32768 → EReal) (vs S v : EReal) (hv0 : 0 ≤ vs) (hvt : vs ≠ ⊤)
    (h1 : ∀ (j : Fin 4) (r : Fin 32768), r.val % 4 = n.val → s j.val r = P (token j r))
    (h0 : ∀ (j : Fin 4) (r : Fin 32768), r.val % 4 ≠ n.val → s j.val r = ⊥)
    (hw : ∀ (j : Fin 4) (r : Fin 32768), r.val % 4 = n.val → w j.val r = V (token j r)) :
    Ideal.div
      (runSum (fun j => Finset.univ.sup (s j)) s w 4 * vs
          * Ideal.exp (runMax (fun j => Finset.univ.sup (s j)) 4 - max (runMax (fun j => Finset.univ.sup (s j)) 4) S)
        + Ideal.exp (S - max (runMax (fun j => Finset.univ.sup (s j)) 4) S) * v)
      (runSum (fun j => Finset.univ.sup (s j)) s (fun _ _ => 1) 4
          * Ideal.exp (runMax (fun j => Finset.univ.sup (s j)) 4 - max (runMax (fun j => Finset.univ.sup (s j)) 4) S)
        + Ideal.exp (S - max (runMax (fun j => Finset.univ.sup (s j)) 4) S))
      = Ideal.div
        ((∑ t, Ideal.exp (P t - max (Finset.univ.fold max ⊥ P) S) * (V t * vs))
          + Ideal.exp (S - max (Finset.univ.fold max ⊥ P) S) * v)
        ((∑ t, Ideal.exp (P t - max (Finset.univ.fold max ⊥ P) S)) + Ideal.exp (S - max (Finset.univ.fold max ⊥ P) S)) := by
  have hs : ∀ j r, s j r ≤ Finset.univ.sup (s j) := fun j r => Finset.le_sup (f := s j) (Finset.mem_univ r)
  have hM := max_tokens n P s h1 h0
  have hO : ∀ w' : ℕ → Fin 32768 → EReal, ∀ V' : Fin 32768 → EReal,
      (∀ (j : Fin 4) (r : Fin 32768), r.val % 4 = n.val → w' j.val r = V' (token j r)) →
      runSum (fun j => Finset.univ.sup (s j)) s w' 4 = ∑ t, Ideal.exp (P t - Finset.univ.fold max ⊥ P) * V' t := by
    intro w' V' hw'
    rw [runSum_eq (fun j => Finset.univ.sup (s j)) s w' hs, hM]
    refine sum_tokens n (fun t => Ideal.exp (P t - Finset.univ.fold max ⊥ P) * V' t) _ (fun j r hr => ?_) (fun j r hr => ?_)
    · rw [h1 j r hr, hw' j r hr]
    · rw [h0 j r hr, EReal.bot_sub, Ideal.exp_bot, zero_mul]
  have hP : ∀ t, P t ≤ Finset.univ.fold max ⊥ P := fun t => Finset.le_sup (f := P) (Finset.mem_univ t)
  rw [hO w V hw, hO (fun _ _ => 1) (fun _ => 1) (fun _ _ _ => rfl), hM, sum_mul _ _ hv0 hvt]
  generalize hm : Finset.univ.fold max ⊥ P = m at *
  have e1 := sum_shift P (fun t => V t * vs) hP (le_max_left m S)
  have e2 := sum_shift P (fun _ => 1) hP (le_max_left m S)
  simp only [← mul_assoc] at e1 ⊢
  rw [e1, e2]
  simp only [mul_one]

end Cert.Softmax
-- ==== Proof.Batch.lean ====
/- What a batch's four steps make of it, in terms of the arrays the region finds. -/
module

public import proofs.«01_k».proof.Proof.Steps
public import proofs.«01_k».proof.Proof.KernelHost
public import proofs.«01_k».proof.Proof.Join

@[expose] public section

set_option maxRecDepth 16384

noncomputable section

namespace Cert.Body

open Idealize.ShloMosaic Idealize.ShloMosaic.TcCoe Cert.KernelIdeal Cert.KernelIdeal.Gen Cert.KernelIdeal.Value
open scoped BigOperators

section
variable (x0 : Vec Ideal S1x32x128 .bf16) (x7 : Vec Ideal S4 .f32) (x11 x12 : ℕ → Vec Ideal S1x32768x128 .fp8e4m3)

/-- The scores of a head's rows in the block of each step. -/
def scoresOf (n : Fin 4) (g : Fin 8) (j : ℕ) (r : Fin 32768) : EReal := rowScore x0 x7 (x11 j) n g r

/-- The maximum before step `k`. -/
def maxAt (k : ℕ) (n : Fin 4) (g : Fin 8) : EReal := Softmax.runMax (fun j => Finset.univ.sup (scoresOf x0 x7 x11 n g j)) k

/-- The sum of the weights before step `k`. -/
def sumAt (k : ℕ) (n : Fin 4) (g : Fin 8) : EReal :=
  Softmax.runSum (fun j => Finset.univ.sup (scoresOf x0 x7 x11 n g j)) (scoresOf x0 x7 x11 n g) (fun _ _ => 1) k

/-- The weighted values before step `k`. -/
def outAt (k : ℕ) (n : Fin 4) (g : Fin 8) (d : Fin 128) : EReal :=
  Softmax.runSum (fun j => Finset.univ.sup (scoresOf x0 x7 x11 n g j)) (scoresOf x0 x7 x11 n g) (fun j r => x12 j (ix3 0 r d)) k

end

variable (m : (ℓ : Loc nD τ sig) → Buf (Elt Ideal) ℓ) (c : Dev nD)

/-- The batch's queries. -/
def Q (b : Fin 32) : Vec Ideal S1x32x128 .bf16 := fun y => V m c main_v0 (ix3 b (y 1) (y 2))

/-- The batch's new keys. -/
def KN (b : Fin 32) : Vec Ideal S1x4x128 .bf16 := fun y => V m c main_v1 (ix3 b (y 1) (y 2))

/-- The batch's new values. -/
def VN (b : Fin 32) : Vec Ideal S1x4x128 .bf16 := fun y => V m c main_v2 (ix3 b (y 1) (y 2))

/-- The cached keys of step `j` of the batch. -/
def KP (b : Fin 32) (j : ℕ) : Vec Ideal S1x32768x128 .fp8e4m3 := fun y =>
  V m c main_v15 (ix3 b ⟨j % 4 * 32768 + (y 1).val, by have : (y 1).val < 32768 := (y 1).isLt; omega⟩ (y 2))

/-- The cached values of step `j` of the batch. -/
def VP (b : Fin 32) (j : ℕ) : Vec Ideal S1x32768x128 .fp8e4m3 := fun y =>
  V m c main_v16 (ix3 b ⟨j % 4 * 32768 + (y 1).val, by have : (y 1).val < 32768 := (y 1).isLt; omega⟩ (y 2))

/-- The keys' scales. -/
abbrev KS : Vec Ideal S4 .f32 := V m c main_v5

/-- The values' scales. -/
abbrev VS : Vec Ideal S4 .f32 := V m c main_v6

/-- Step `j` of batch `b`. -/
def pt (b : Fin 32) (j : Fin 4) : Fin cfg0.N := ⟨4 * b.val + j.val, lt_of_lt_of_eq (by omega) N_0.symm⟩

theorem iblk0 (b : Fin 32) (j : Fin 4) : iblk m c 0 (pt b j) = Q m c b := by
  refine (Host.read0 c (pt b j) _).trans ?_
  have e : (⟨(pt b j).val / 4, by have := Host.points (pt b j); omega⟩ : Fin 32) = b := Fin.ext (by show (4 * b.val + j.val) / 4 = b.val; omega)
  rw [e]
  rfl

theorem iblk1 (b : Fin 32) (j : Fin 4) : iblk m c 1 (pt b j) = KN m c b := by
  refine (Host.read1 c (pt b j) _).trans ?_
  have e : (⟨(pt b j).val / 4, by have := Host.points (pt b j); omega⟩ : Fin 32) = b := Fin.ext (by show (4 * b.val + j.val) / 4 = b.val; omega)
  rw [e]
  rfl

theorem iblk2 (b : Fin 32) (j : Fin 4) : iblk m c 2 (pt b j) = VN m c b := by
  refine (Host.read2 c (pt b j) _).trans ?_
  have e : (⟨(pt b j).val / 4, by have := Host.points (pt b j); omega⟩ : Fin 32) = b := Fin.ext (by show (4 * b.val + j.val) / 4 = b.val; omega)
  rw [e]
  rfl

theorem iblk7 (t : Fin cfg0.N) : iblk m c 7 t = KS m c := Host.read7 c t _
theorem iblk8 (t : Fin cfg0.N) : iblk m c 8 t = VS m c := Host.read8 c t _
theorem iblk9 (t : Fin cfg0.N) : iblk m c 9 t = V m c main_arg4 := Host.read9 c t _
theorem iblk10 (t : Fin cfg0.N) : iblk m c 10 t = V m c main_arg6 := Host.read10 c t _

theorem iblk11 (b : Fin 32) (j : Fin 4) : iblk m c 11 (pt b j) = KP m c b j.val := by
  refine (Host.read11 c (pt b j) _).trans ?_
  unfold KP
  generalize V m c main_v15 = X
  have h0 : (pt b j).val / 4 = b.val := by show (4 * b.val + j.val) / 4 = b.val; omega
  have h1 : (pt b j).val % 4 = j.val % 4 := by show (4 * b.val + j.val) % 4 = j.val % 4; omega
  simp only [h0, h1]

theorem iblk12 (b : Fin 32) (j : Fin 4) : iblk m c 12 (pt b j) = VP m c b j.val := by
  refine (Host.read12 c (pt b j) _).trans ?_
  unfold VP
  generalize V m c main_v16 = X
  have h0 : (pt b j).val / 4 = b.val := by show (4 * b.val + j.val) / 4 = b.val; omega
  have h1 : (pt b j).val % 4 = j.val % 4 := by show (4 * b.val + j.val) % 4 = j.val % 4; omega
  simp only [h0, h1]

/-- What the outputs and the carried arrays hold after step `j` of the batch. -/
def after (b : Fin 32) (j : Fin 4) : State := outsAt0 m c (pt b j).val (pt b j).isLt

theorem outs_eq (t : Fin cfg0.N) : ∃ s : State, outsAt0 m c t.val t.isLt = stAt0 m c t.val t.isLt s ∧
    ∀ n hn, t.val = n + 1 → s = outsAt0 m c n hn := by
  obtain ⟨t, ht⟩ := t
  cases t with
  | zero => exact ⟨_, outsAt0_zero m c ht, fun n _ h => by simp at h⟩
  | succ k => exact ⟨_, outsAt0_succ m c k ht, fun n hn h => by
      obtain rfl : k = n := by simpa using h
      rfl⟩

theorem after_carried (b : Fin 32) : ∀ (j : ℕ) (hj : j < 4), Carried (Q m c b)
    (maxAt (Q m c b) (KS m c) (KP m c b) (j + 1)) (sumAt (Q m c b) (KS m c) (KP m c b) (j + 1))
    (outAt (Q m c b) (KS m c) (KP m c b) (VP m c b) (j + 1)) (after m c b ⟨j, hj⟩) := by
  intro j
  induction j with
  | zero =>
    intro hj
    obtain ⟨s, e, _⟩ := outs_eq m c (pt b ⟨0, hj⟩)
    have h := step_first m c (pt b ⟨0, hj⟩) s (by show (4 * b.val + 0) % 4 = 0; omega)
    rw [iblk0, iblk7, iblk11, iblk12] at h
    unfold after
    rw [e]
    exact h
  | succ j ih =>
    intro hj
    obtain ⟨s, e, hs⟩ := outs_eq m c (pt b ⟨j + 1, hj⟩)
    have H := ih (by omega)
    have hs' : s = after m c b ⟨j, by omega⟩ := hs _ _ (by show 4 * b.val + (j + 1) = (4 * b.val + j) + 1; omega)
    rw [← hs'] at H
    have h := step_next m c (pt b ⟨j + 1, hj⟩) s (by show ¬(4 * b.val + (j + 1)) % 4 = 0; omega) _ H
    rw [iblk7, iblk11, iblk12] at h
    unfold after
    rw [e]
    exact h

/-- The answers of the batch. -/
theorem after_answers (b : Fin 32) (n : Fin 4) (g : Fin 8) (d : Fin 128) :
    (after m c b 3).1 (ix3 0 ⟨n.val * 8 + g.val, by omega⟩ d)
      = answerOf (maxAt (Q m c b) (KS m c) (KP m c b) 4 n g) (sumAt (Q m c b) (KS m c) (KP m c b) 4 n g)
          (outAt (Q m c b) (KS m c) (KP m c b) (VP m c b) 4 n g d) (VS m c (ix1 n))
          (tokenScore (Q m c b) (KN m c b) (KS m c) (V m c main_arg4) n g)
          (code (VN m c b (ix3 0 n d)) (inverse (F := Ideal) (V m c main_arg6 (ix1 n))) * VS m c (ix1 n)) := by
  have H := after_carried m c b 3 (by omega)
  obtain ⟨s, e, _⟩ := outs_eq m c (pt b 3)
  have h := step_answers m c (pt b 3) s (by show (4 * b.val + 3) % 4 = 3; omega)
  rw [← e, iblk0, iblk1, iblk2, iblk7, iblk8, iblk9, iblk10] at h
  refine (congrFun h _).trans ?_
  exact answers_apply H.2 _ _ _ _ _ _ _ n g d

/-- The answers' array after the region. -/
theorem answers_at (b : Fin 32) (n : Fin 4) (g : Fin 8) (d : Fin 128) :
    (dats m 0 c).arrAt 13 cfg0.N (ix3 b ⟨n.val * 8 + g.val, by omega⟩ d) = (after m c b 3).1 (ix3 0 ⟨n.val * 8 + g.val, by omega⟩ d) := by
  rw [final13]
  have hp : pt13Of (ix3 b ⟨n.val * 8 + g.val, by omega⟩ d) = (pt b 3).val := by
    show 4 * (1 * (b.val / 1 - 0) + 1 * ((n.val * 8 + g.val) / 32 - 0) + 1 * (d.val / 128 - 0)) + 3 = 4 * b.val + 3
    omega
  have hl : loc13Of (ix3 b ⟨n.val * 8 + g.val, by omega⟩ d) = ix3 0 ⟨n.val * 8 + g.val, by omega⟩ d := by
    funext a
    apply Fin.ext
    match a with
    | ⟨0, _⟩ => show b.val % 1 = 0; omega
    | ⟨1, _⟩ => show (n.val * 8 + g.val) % 32 = n.val * 8 + g.val; omega
    | ⟨2, _⟩ => show d.val % 128 = d.val; omega
  unfold G13
  rw [dif_pos (by rw [hp]; exact (pt b 3).isLt), hl, fold0_congr m c _ _ _ (by have := (pt b 3).isLt; omega) hp, ← outsAt0_sweep]
  rfl

/-- The keys' codes after the region. -/
theorem codes_k : (dats m 0 c).arrAt 14 cfg0.N = k0_pay4 (V m c main_v3) (V m c main_v10) := by
  rw [final14, G14_last, ← outsAt0_sweep m c 127 (pt 31 3).isLt]
  obtain ⟨s, e, _⟩ := outs_eq m c (pt 31 3)
  have h := step_codes14 m c (pt 31 3) s rfl
  rw [← e] at h
  have e3 : iblk m c 3 (pt 31 3) = V m c main_v3 := Host.read3 c _ _
  have e5 : iblk m c 5 (pt 31 3) = V m c main_v10 := Host.read5 c _ _
  rw [e3, e5] at h
  exact h

/-- The values' codes after the region. -/
theorem codes_v : (dats m 0 c).arrAt 15 cfg0.N = k0_pay4 (V m c main_v4) (V m c main_v14) := by
  rw [final15, G15_last, ← outsAt0_sweep m c 127 (pt 31 3).isLt]
  obtain ⟨s, e, _⟩ := outs_eq m c (pt 31 3)
  have h := step_codes15 m c (pt 31 3) s rfl
  rw [← e] at h
  have e4 : iblk m c 4 (pt 31 3) = V m c main_v4 := Host.read4 c _ _
  have e6 : iblk m c 6 (pt 31 3) = V m c main_v14 := Host.read6 c _ _
  rw [e4, e6] at h
  exact h

end Cert.Body

end
-- ==== Proof.KernelCodes.lean ====
/- The codes the kernel stores of the new rows, read at an index. -/
module

public import proofs.«01_k».proof.Proof.Finish
public import proofs.«01_k».proof.Proof.KernelHost

@[expose] public section

set_option maxRecDepth 16384

noncomputable section

namespace Cert.Body

open Idealize.ShloMosaic Idealize.ShloMosaic.TcCoe Cert.KernelIdeal Cert.KernelIdeal.Gen

theorem codes_apply (x : Vec Ideal S128x128 .bf16) (w : Vec Ideal S128x1 .i32) (r d : Fin 128) :
    (k0_pay4 x w (ix2 r d) : EReal) = code (x (ix2 r d)) (inverse (F := Ideal) (w (ix2 r 0))) := by
  have h1 : ∀ u : BitVec 32, IntOp.shrsi ArithUnit.vector u 23#32 = Scalar.shrsi u 23#32 := fun u => by
    simp [Scalar.shrsi, IntOp.shrsi]
  have h2 : ∀ u : BitVec 32, IntOp.shli ArithUnit.vector u 23#32 = Scalar.shli u 23#32 := fun u => by
    simp [Scalar.shli, IntOp.shli]
  unfold code inverse
  pointwise [k0_pay4]
  rw [h1, h2]
  rfl

theorem words_apply (w : Vec Ideal S4 .i32) (b : Fin 32) (n : Fin 4) :
    Host.rows (F := Ideal) w (ix2 ⟨b.val * 4 + n.val, by omega⟩ 0) = w (ix1 n) := by
  pointwise [Host.rows]

theorem all_apply (x : Vec Ideal S32x1x4x128 .bf16) (b : Fin 32) (n : Fin 4) (d : Fin 128) :
    (shapeCast S128x128 x shapeCasts_S32x1x4x128_S128x128 : Vec Ideal S128x128 .bf16) (ix2 ⟨b.val * 4 + n.val, by omega⟩ d)
      = x (ix4 b 0 n d) := by
  pointwise []

/-- The kernel's codes of row `n` of batch `b`. -/
theorem codes_at (x : Vec Ideal S32x1x4x128 .bf16) (w : Vec Ideal S4 .i32) (b : Fin 32) (n : Fin 4) (d : Fin 128) :
    (k0_pay4 (shapeCast S128x128 x shapeCasts_S32x1x4x128_S128x128) (Host.rows (F := Ideal) w) (ix2 ⟨b.val * 4 + n.val, by omega⟩ d) : EReal)
      = code (x (ix4 b 0 n d)) (inverse (F := Ideal) (w (ix1 n))) := by
  rw [codes_apply, all_apply, words_apply]

theorem queries_at (x : Vec Ideal S32x1x4096 .bf16) (b : Fin 32) (h : Fin 32) (d : Fin 128) :
    (shapeCast S32x32x128 x shapeCasts_S32x1x4096_S32x32x128 : Vec Ideal S32x32x128 .bf16) (ix3 b h d)
      = x (ix3 b 0 ⟨h.val * 128 + d.val, by omega⟩) := by
  pointwise []

theorem new_at (x : Vec Ideal S32x1x4x128 .bf16) (b : Fin 32) (n : Fin 4) (d : Fin 128) :
    (shapeCast S32x4x128 x shapeCasts_S32x1x4x128_S32x4x128 : Vec Ideal S32x4x128 .bf16) (ix3 b n d) = x (ix4 b 0 n d) := by
  pointwise []

theorem cache_at (x : Vec Ideal S32x32768x4x128 .fp8e4m3) (b : Fin 32) (t : Fin 32768) (n : Fin 4) (d : Fin 128) :
    (shapeCast S32x131072x128 x shapeCasts_S32x32768x4x128_S32x131072x128 : Vec Ideal S32x131072x128 .fp8e4m3)
      (ix3 b ⟨t.val * 4 + n.val, by omega⟩ d) = x (ix4 b t n d) := by
  pointwise []

end Cert.Body

end
-- ==== Proof.RefTerms.lean ====
/- What the reference computes after its region: the attention, written as a composition of a few array functions,
   and each of them read at an index. -/
module

public import proofs.«01_k».proof.Proof.Gen.ReferenceIdeal
public import Idealize.ShloMosaic.Lib.Pointwise
public import Idealize.ShloMosaic.Lib.Tactic

@[expose] public section

set_option maxRecDepth 16384

noncomputable section

namespace Cert.Ref

open Cert.ReferenceIdeal Cert.ReferenceIdeal.Gen Idealize.ShloMosaic Idealize.ShloMosaic.TcCoe Idealize.SL.Sem

variable {F : FTy → Type} [FloatOps F]

/-- The queries, `[batch, kv head, query of the group, feature]`. -/
def heads (x : Vec F S32x1x4096 .bf16) : Vec F S32x4x8x128 .bf16 := shapeCast _ x shapeCasts_S32x1x4096_S32x4x8x128

/-- The scale of each head, from its word. -/
def scale (w : Vec F S4 .i32) : Vec F S4 .bf16 := truncf .bf16 (bitcastToFloat (F := F) .f32 w) bitsLt_bf16_f32

/-- The cached codes times their head's scale. -/
def past (codes : Vec F S32x32768x4x128 .bf16) (w : Vec F S4 .i32) : Vec F S32x32768x4x128 .bf16 :=
  mulf codes (broadcastInDim S32x32768x4x128 ![0, 1, 2, 3] bcast_S1x1x4x1_S32x32768x4x128_0_1_2_3
    (broadcastInDim S1x1x4x1 ![2, 3] bcast_S4x1_S1x1x4x1_2_3 (broadcastInDim S4x1 ![0] bcast_S4_S4x1_0 (scale w))))

/-- The new token's codes times their head's scale. -/
def last (codes : Vec F S32x4x128 .bf16) (w : Vec F S4 .i32) : Vec F S32x4x128 .bf16 :=
  mulf codes (broadcastInDim S32x4x128 ![0, 1, 2] bcast_S1x4x1_S32x4x128_0_1_2
    (broadcastInDim S1x4x1 ![1, 2] bcast_S4x1_S1x4x1_1_2 (broadcastInDim S4x1 ![0] bcast_S4_S4x1_0 (scale w))))

/-- The scores against the cache. -/
def sPast (x : Vec F S32x1x4096 .bf16) (k : Vec F S32x32768x4x128 .bf16) : Vec F S32x4x8x32768 .f32 :=
  mulf (Host.dotGeneral dot_S32x4x8x128_S32x32768x4x128_S32x4x8x32768_3_3_2_1_01_02 none (heads x) k)
    (broadcastInDim S32x4x8x32768 ![] bcast_S_S32x4x8x32768 (constant S_ .f32 0x3DB504F3#32))

/-- The score against the new token. -/
def sLast (x : Vec F S32x1x4096 .bf16) (k : Vec F S32x4x128 .bf16) : Vec F S32x4x8 .f32 :=
  mulf (Host.dotGeneral dot_S32x4x8x128_S32x4x128_S32x4x8_3_2_2_n_01_01 none (heads x) k)
    (broadcastInDim S32x4x8 ![] bcast_S_S32x4x8 (constant S_ .f32 0x3DB504F3#32))

/-- The largest score. -/
def top (s : Vec F S32x4x8x32768 .f32) (t : Vec F S32x4x8 .f32) : Vec F S32x4x8 .f32 :=
  maximumf (Host.reduce FloatOps.maximumf s (constant S_ .f32 0xFF800000#32) reducesTo_S32x4x8x32768_S32x4x8_d3 h_S_) t

/-- The cache's weights, before they are divided by their sum. -/
def pPast (s : Vec F S32x4x8x32768 .f32) (t : Vec F S32x4x8 .f32) : Vec F S32x4x8x32768 .f32 :=
  Host.exp (subf s (broadcastInDim S32x4x8x32768 ![0, 1, 2, 3] bcast_S32x4x8x1_S32x4x8x32768_0_1_2_3
    (broadcastInDim S32x4x8x1 ![0, 1, 2] bcast_S32x4x8_S32x4x8x1_0_1_2 (top s t))))

/-- The new token's weight, before it is divided by the sum. -/
def pLast (s : Vec F S32x4x8x32768 .f32) (t : Vec F S32x4x8 .f32) : Vec F S32x4x8 .f32 :=
  Host.exp (subf t (top s t))

/-- The attention's result from the scores and the values. -/
def attend (s : Vec F S32x4x8x32768 .f32) (t : Vec F S32x4x8 .f32) (v : Vec F S32x32768x4x128 .bf16)
    (vl : Vec F S32x4x128 .bf16) : Vec F S32x32x128 .bf16 :=
  shapeCast _ (truncf .bf16 (Host.divf
    (addf (Host.dotGeneral dot_S32x4x8x32768_S32x32768x4x128_S32x4x8x128_3_1_2_3_01_02 none
        (truncf .bf16 (pPast s t) bitsLt_bf16_f32) v)
      (mulf (broadcastInDim S32x4x8x128 ![0, 1, 2, 3] bcast_S32x4x8x1_S32x4x8x128_0_1_2_3
          (broadcastInDim S32x4x8x1 ![0, 1, 2] bcast_S32x4x8_S32x4x8x1_0_1_2
            (extf .f32 (truncf .bf16 (pLast s t) bitsLt_bf16_f32) bitsLt_bf16_f32)))
        (broadcastInDim S32x4x8x128 ![0, 1, 2, 3] bcast_S32x4x1x128_S32x4x8x128_0_1_2_3
          (broadcastInDim S32x4x1x128 ![0, 1, 3] bcast_S32x4x128_S32x4x1x128_0_1_3 (extf .f32 vl bitsLt_bf16_f32)))))
    (broadcastInDim S32x4x8x128 ![0, 1, 2, 3] bcast_S32x4x8x1_S32x4x8x128_0_1_2_3
      (broadcastInDim S32x4x8x1 ![0, 1, 2] bcast_S32x4x8_S32x4x8x1_0_1_2
        (addf (Host.reduceAdd (pPast s t) (constant S_ .f32 0x00000000#32) reducesTo_S32x4x8x32768_S32x4x8_d3 h_S_)
          (pLast s t))))) bitsLt_bf16_f32) shapeCasts_S32x4x8x128_S32x32x128

theorem heads_apply (x : Vec Ideal S32x1x4096 .bf16) (b : Fin 32) (n : Fin 4) (g : Fin 8) (d : Fin 128) :
    heads x (ix4 b n g d) = x (ix3 b 0 ⟨n.val * 1024 + g.val * 128 + d.val, by omega⟩) := by
  pointwise [heads]

theorem past_apply (codes : Vec Ideal S32x32768x4x128 .bf16) (w : Vec Ideal S4 .i32) (b : Fin 32) (t : Fin 32768)
    (n : Fin 4) (d : Fin 128) :
    past codes w (ix4 b t n d) = codes (ix4 b t n d) * Ideal.ofBits .f32 (w (ix1 n)) := by
  pointwise [past, scale]

theorem last_apply (codes : Vec Ideal S32x4x128 .bf16) (w : Vec Ideal S4 .i32) (b : Fin 32)
    (n : Fin 4) (d : Fin 128) :
    last codes w (ix3 b n d) = codes (ix3 b n d) * Ideal.ofBits .f32 (w (ix1 n)) := by
  pointwise [last, scale]

theorem sPast_apply (x : Vec Ideal S32x1x4096 .bf16) (k : Vec Ideal S32x32768x4x128 .bf16) (b : Fin 32) (n : Fin 4)
    (g : Fin 8) (t : Fin 32768) :
    sPast x k (ix4 b n g t) = (∑ d : Fin 128, heads x (ix4 b n g d) * k (ix4 b t n d)) * Ideal.ofBits .f32 0x3DB504F3#32 := by
  pointwise [sPast]

theorem sLast_apply (x : Vec Ideal S32x1x4096 .bf16) (k : Vec Ideal S32x4x128 .bf16) (b : Fin 32) (n : Fin 4)
    (g : Fin 8) :
    sLast x k (ix3 b n g) = (∑ d : Fin 128, heads x (ix4 b n g d) * k (ix3 b n d)) * Ideal.ofBits .f32 0x3DB504F3#32 := by
  pointwise [sLast]

/-- The word of minus infinity. -/
theorem ofBits_bot : Ideal.ofBits .f32 0xFF800000#32 = ⊥ := by
  simp [Ideal.ofBits, Ideal.ieee]

/-- The host's largest element along the last of four axes. -/
theorem reduceMax_apply {n0 n1 n2 n3 : ℕ} (x : (⟨4, ![n0, n1, n2, n3]⟩ : Shape).Idx → EReal) (init : S_.Idx → EReal)
    (h : (⟨4, ![n0, n1, n2, n3]⟩ : Shape).ReducesTo [3] ⟨3, ![n0, n1, n2]⟩) (hu : 0 < S_.numel) (b : Fin n0) (n : Fin n1)
    (g : Fin n2) :
    Host.reduce (FloatOps.maximumf (F := Ideal) (φ := .f32)) x init h hu (ix3 b n g)
      = (Finset.univ : Finset (Fin n3)).fold max (init (Shape.Idx.first hu)) fun k => x (ix4 b n g k) :=
  (Host.reduce_eq_fold (max : EReal → EReal → EReal) x init h hu _).trans (h.fold_fiber_r4_a3 _ _ _ _)

theorem top_apply (s : Vec Ideal S32x4x8x32768 .f32) (t : Vec Ideal S32x4x8 .f32) (b : Fin 32) (n : Fin 4)
    (g : Fin 8) :
    top s t (ix3 b n g) = max (Finset.univ.fold max ⊥ fun k : Fin 32768 => s (ix4 b n g k)) (t (ix3 b n g)) := by
  have h := reduceMax_apply s (constant (F := Ideal) S_ .f32 0xFF800000#32) reducesTo_S32x4x8x32768_S32x4x8_d3 h_S_ b n g
  have hc : (constant (F := Ideal) S_ .f32 0xFF800000#32) (Shape.Idx.first h_S_) = (⊥ : EReal) := ofBits_bot
  unfold top
  rw [maximumf_apply, h, hc]
  rfl

theorem attend_apply (s : Vec Ideal S32x4x8x32768 .f32) (t : Vec Ideal S32x4x8 .f32) (v : Vec Ideal S32x32768x4x128 .bf16)
    (vl : Vec Ideal S32x4x128 .bf16) (b : Fin 32) (n : Fin 4) (g : Fin 8) (d : Fin 128) :
    attend s t v vl (ix3 b ⟨n.val * 8 + g.val, by omega⟩ d) = Ideal.div
      ((∑ k : Fin 32768, Ideal.exp (s (ix4 b n g k) - top s t (ix3 b n g)) * v (ix4 b k n d))
        + Ideal.exp (t (ix3 b n g) - top s t (ix3 b n g)) * vl (ix3 b n d))
      ((∑ k : Fin 32768, Ideal.exp (s (ix4 b n g k) - top s t (ix3 b n g)))
        + Ideal.exp (t (ix3 b n g) - top s t (ix3 b n g))) := by
  pointwise [attend, pPast, pLast]

end Cert.Ref

end
-- ==== Proof.RefRun.lean ====
/- The reference's run: every execution ends with each result at the composed term of the arguments and of what its
   region left, the arguments unchanged. -/
module

public import proofs.«01_k».proof.Proof.RefTerms
public import proofs.«01_k».proof.Proof.Gen.ReferenceIdeal.Frame
public import Idealize.ShloMosaic.Lib.StableHlo.Run
public import Idealize.ShloMosaic.Lib.Pipeline.FrameSuffix

@[expose] public section

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-- Core `c`'s TensorCore buffer contents when the region is left: the arrays of its pipeline at what the proof data give
    after the last point, every other buffer as the region found it. -/
abbrev exitV (c : Dev nD) : Valuation τ sig (Elt F) :=
  Pipeline.withArrays spec0 c (Gen.V0 m c) fun w => (Gen.dats m 0 c).arrAt w cfg0.N

/-- What the kernel region leaves in its result array `main_v52_0` (window 4's): not opened here. -/
def reg_main_v52_0 (c : Dev nD) : Buf (Elt F) ((c.tc : Thread nD τ).loc main_v52_0) := (Gen.dats m 0 c).arrAt 4 cfg0.N
/-- What the kernel region leaves in its result array `main_v52_1` (window 5's): not opened here. -/
def reg_main_v52_1 (c : Dev nD) : Buf (Elt F) ((c.tc : Thread nD τ).loc main_v52_1) := (Gen.dats m 0 c).arrAt 5 cfg0.N
/-- What the kernel region leaves in its result array `main_v52_2` (window 6's): not opened here. -/
def reg_main_v52_2 (c : Dev nD) : Buf (Elt F) ((c.tc : Thread nD τ).loc main_v52_2) := (Gen.dats m 0 c).arrAt 6 cfg0.N
/-- What the kernel region leaves in its result array `main_v52_3` (window 7's): not opened here. -/
def reg_main_v52_3 (c : Dev nD) : Buf (Elt F) ((c.tc : Thread nD τ).loc main_v52_3) := (Gen.dats m 0 c).arrAt 7 cfg0.N
/-- What the kernel region leaves in its result array `main_v52_4` (window 8's): not opened here. -/
def reg_main_v52_4 (c : Dev nD) : Buf (Elt F) ((c.tc : Thread nD τ).loc main_v52_4) := (Gen.dats m 0 c).arrAt 8 cfg0.N
/-- What the kernel region leaves in its result array `main_v52_5` (window 9's): not opened here. -/
def reg_main_v52_5 (c : Dev nD) : Buf (Elt F) ((c.tc : Thread nD τ).loc main_v52_5) := (Gen.dats m 0 c).arrAt 9 cfg0.N

/-- The exit contents at argument `main_arg0`: as launched. -/
theorem exit_main_arg0 (c : Dev nD) : exitV m c (Proc.devRef .tc main_arg0) = m ((c.tc : Thread nD τ).loc main_arg0) :=
  (Pipeline.withArrays_of_ne _ c (Gen.V0 m c) _ main_arg0 (by exact (by decide : ∀ w, Pipeline.arrRef spec0 w ≠ main_arg0))).trans (Gen.V_main_arg0 m c)
/-- The exit contents at argument `main_arg4`: as launched. -/
theorem exit_main_arg4 (c : Dev nD) : exitV m c (Proc.devRef .tc main_arg4) = m ((c.tc : Thread nD τ).loc main_arg4) :=
  (Pipeline.withArrays_of_ne _ c (Gen.V0 m c) _ main_arg4 (by exact (by decide : ∀ w, Pipeline.arrRef spec0 w ≠ main_arg4))).trans (Gen.V_main_arg4 m c)
/-- The exit contents at argument `main_arg6`: as launched. -/
theorem exit_main_arg6 (c : Dev nD) : exitV m c (Proc.devRef .tc main_arg6) = m ((c.tc : Thread nD τ).loc main_arg6) :=
  (Pipeline.withArrays_of_ne _ c (Gen.V0 m c) _ main_arg6 (by exact (by decide : ∀ w, Pipeline.arrRef spec0 w ≠ main_arg6))).trans (Gen.V_main_arg6 m c)
/-- The exit contents at the region's result array `main_v52_4`. -/
theorem exit_main_v52_4 (c : Dev nD) : exitV m c (Proc.devRef .tc main_v52_4) = reg_main_v52_4 m c :=
  Pipeline.withArrays_arr spec0 Gen.launch0.win.arr_inj c (Gen.V0 m c) _ 8
/-- The exit contents at the region's result array `main_v52_5`. -/
theorem exit_main_v52_5 (c : Dev nD) : exitV m c (Proc.devRef .tc main_v52_5) = reg_main_v52_5 m c :=
  Pipeline.withArrays_arr spec0 Gen.launch0.win.arr_inj c (Gen.V0 m c) _ 9
/-- The exit contents at the region's result array `main_v52_2`. -/
theorem exit_main_v52_2 (c : Dev nD) : exitV m c (Proc.devRef .tc main_v52_2) = reg_main_v52_2 m c :=
  Pipeline.withArrays_arr spec0 Gen.launch0.win.arr_inj c (Gen.V0 m c) _ 6
/-- The exit contents at the region's result array `main_v52_3`. -/
theorem exit_main_v52_3 (c : Dev nD) : exitV m c (Proc.devRef .tc main_v52_3) = reg_main_v52_3 m c :=
  Pipeline.withArrays_arr spec0 Gen.launch0.win.arr_inj c (Gen.V0 m c) _ 7
/-- The exit contents at the region's result array `main_v52_0`. -/
theorem exit_main_v52_0 (c : Dev nD) : exitV m c (Proc.devRef .tc main_v52_0) = reg_main_v52_0 m c :=
  Pipeline.withArrays_arr spec0 Gen.launch0.win.arr_inj c (Gen.V0 m c) _ 4
/-- The exit contents at the region's result array `main_v52_1`. -/
theorem exit_main_v52_1 (c : Dev nD) : exitV m c (Proc.devRef .tc main_v52_1) = reg_main_v52_1 m c :=
  Pipeline.withArrays_arr spec0 Gen.launch0.win.arr_inj c (Gen.V0 m c) _ 5

set_option maxRecDepth 8192 in
set_option maxRecDepth 8192 in
set_option maxHeartbeats 2000000 in
/-- The operations after the region from any contents `V0`, read at the first result: the attention's composition. -/
theorem tail_main_v103 (V0 : Valuation τ sig (Elt F)) :
    after (List.flatten [Gen.hostOps1]) V0 (Proc.devRef .tc main_v103) = attend
      (sPast (V0 (Proc.devRef .tc main_arg0)) (past (V0 (Proc.devRef .tc main_v52_4)) (V0 (Proc.devRef .tc main_arg4))))
      (sLast (V0 (Proc.devRef .tc main_arg0)) (last (V0 (Proc.devRef .tc main_v52_2)) (V0 (Proc.devRef .tc main_arg4))))
      (past (V0 (Proc.devRef .tc main_v52_5)) (V0 (Proc.devRef .tc main_arg6)))
      (last (V0 (Proc.devRef .tc main_v52_3)) (V0 (Proc.devRef .tc main_arg6))) := by
  simp only [Gen.hostOps1, List.flatten_cons, List.flatten_nil, List.append_nil, List.cons_append, List.nil_append]
  after_results_simp <;> rfl

/-- The reference's first result: the attention of the arguments and of what the region left. -/
def res_main_v103 (c : Dev nD) : Vec F S32x32x128 .bf16 := attend
  (sPast (m ((c.tc : Thread nD τ).loc main_arg0)) (past (reg_main_v52_4 m c) (m ((c.tc : Thread nD τ).loc main_arg4))))
  (sLast (m ((c.tc : Thread nD τ).loc main_arg0)) (last (reg_main_v52_2 m c) (m ((c.tc : Thread nD τ).loc main_arg4))))
  (past (reg_main_v52_5 m c) (m ((c.tc : Thread nD τ).loc main_arg6)))
  (last (reg_main_v52_3 m c) (m ((c.tc : Thread nD τ).loc main_arg6)))

/-- The first result after the operations that follow the region, from the contents the region leaves. -/
theorem fin_main_v103 (c : Dev nD) :
    Pipeline.afterTail₀ cfgs (Gen.dats m) 0 (Gen.V0 m) [Gen.hostOps1] c main_v103 = res_main_v103 m c :=
  (tail_main_v103 (exitV m c)).trans (by
    rw [exit_main_arg0, exit_main_arg4, exit_main_arg6, exit_main_v52_4, exit_main_v52_5, exit_main_v52_2,
      exit_main_v52_3]; rfl)

set_option maxRecDepth 8192 in
set_option maxHeartbeats 2000000 in
/-- The later operations from any contents `V0`, read at result `main_v104`. -/
theorem tail_main_v104 (V0 : Valuation τ sig (Elt F)) :
    after (List.flatten [Gen.hostOps1]) V0 (Proc.devRef .tc main_v104) = shapeCast _ (V0 (Proc.devRef .tc main_v52_0)) shapeCasts_S32x4x128_S128x128 := by
  simp only [Gen.hostOps1, List.flatten_cons, List.flatten_nil, List.append_nil, List.cons_append, List.nil_append]
  after_results_simp <;> rfl
/-- Result `main_v104` after the later operations from the region's exit contents. -/
theorem fin_main_v104 (c : Dev nD) :
    Pipeline.afterTail₀ cfgs (Gen.dats m) 0 (Gen.V0 m) [Gen.hostOps1] c main_v104 = shapeCast _ (reg_main_v52_0 m c) shapeCasts_S32x4x128_S128x128 :=
  (tail_main_v104 (exitV m c)).trans (by rw [exit_main_v52_0])

set_option maxRecDepth 8192 in
set_option maxHeartbeats 2000000 in
/-- The later operations from any contents `V0`, read at result `main_v53`. -/
theorem tail_main_v53 (V0 : Valuation τ sig (Elt F)) :
    after (List.flatten [Gen.hostOps1]) V0 (Proc.devRef .tc main_v53) = bitcastToFloat (F := F) .f32 (V0 (Proc.devRef .tc main_arg4)) := by
  simp only [Gen.hostOps1, List.flatten_cons, List.flatten_nil, List.append_nil, List.cons_append, List.nil_append]
  after_results_simp <;> rfl
/-- Result `main_v53` after the later operations from the region's exit contents. -/
theorem fin_main_v53 (c : Dev nD) :
    Pipeline.afterTail₀ cfgs (Gen.dats m) 0 (Gen.V0 m) [Gen.hostOps1] c main_v53 = bitcastToFloat (F := F) .f32 (m ((c.tc : Thread nD τ).loc main_arg4)) :=
  (tail_main_v53 (exitV m c)).trans (by rw [exit_main_arg4])

set_option maxRecDepth 8192 in
set_option maxHeartbeats 2000000 in
/-- The later operations from any contents `V0`, read at result `main_v105`. -/
theorem tail_main_v105 (V0 : Valuation τ sig (Elt F)) :
    after (List.flatten [Gen.hostOps1]) V0 (Proc.devRef .tc main_v105) = shapeCast _ (V0 (Proc.devRef .tc main_v52_1)) shapeCasts_S32x4x128_S128x128 := by
  simp only [Gen.hostOps1, List.flatten_cons, List.flatten_nil, List.append_nil, List.cons_append, List.nil_append]
  after_results_simp <;> rfl
/-- Result `main_v105` after the later operations from the region's exit contents. -/
theorem fin_main_v105 (c : Dev nD) :
    Pipeline.afterTail₀ cfgs (Gen.dats m) 0 (Gen.V0 m) [Gen.hostOps1] c main_v105 = shapeCast _ (reg_main_v52_1 m c) shapeCasts_S32x4x128_S128x128 :=
  (tail_main_v105 (exitV m c)).trans (by rw [exit_main_v52_1])

set_option maxRecDepth 8192 in
set_option maxHeartbeats 2000000 in
/-- The later operations from any contents `V0`, read at result `main_v54`. -/
theorem tail_main_v54 (V0 : Valuation τ sig (Elt F)) :
    after (List.flatten [Gen.hostOps1]) V0 (Proc.devRef .tc main_v54) = bitcastToFloat (F := F) .f32 (V0 (Proc.devRef .tc main_arg6)) := by
  simp only [Gen.hostOps1, List.flatten_cons, List.flatten_nil, List.append_nil, List.cons_append, List.nil_append]
  after_results_simp <;> rfl
/-- Result `main_v54` after the later operations from the region's exit contents. -/
theorem fin_main_v54 (c : Dev nD) :
    Pipeline.afterTail₀ cfgs (Gen.dats m) 0 (Gen.V0 m) [Gen.hostOps1] c main_v54 = bitcastToFloat (F := F) .f32 (m ((c.tc : Thread nD τ).loc main_arg6)) :=
  (tail_main_v54 (exitV m c)).trans (by rw [exit_main_arg6])

/-- On every device, for any float values, from any memory with zero counters: every weakly fair execution of
    @main terminates with each result at the later operations' composed term of the arguments and the region's
    outputs, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v103) = res_main_v103 m c
      ∧ r.2.mem ((c.tc : Thread nD τ).loc main_v104) = shapeCast _ (reg_main_v52_0 m c) shapeCasts_S32x4x128_S128x128
      ∧ r.2.mem ((c.tc : Thread nD τ).loc main_v53) = bitcastToFloat (F := F) .f32 (m ((c.tc : Thread nD τ).loc main_arg4))
      ∧ r.2.mem ((c.tc : Thread nD τ).loc main_v105) = shapeCast _ (reg_main_v52_1 m c) shapeCasts_S32x4x128_S128x128
      ∧ r.2.mem ((c.tc : Thread nD τ).loc main_v54) = bitcastToFloat (F := F) .f32 (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v103 (Pipeline.mem_restRefs_of main_v103 (by decide) (by decide))).trans (fin_main_v103 m c),
      ((h c).2 main_v104 (Pipeline.mem_restRefs_of main_v104 (by decide) (by decide))).trans (fin_main_v104 m c),
      ((h c).2 main_v53 (Pipeline.mem_restRefs_of main_v53 (by decide) (by decide))).trans (fin_main_v53 m c),
      ((h c).2 main_v105 (Pipeline.mem_restRefs_of main_v105 (by decide) (by decide))).trans (fin_main_v105 m c),
      ((h c).2 main_v54 (Pipeline.mem_restRefs_of main_v54 (by decide) (by decide))).trans (fin_main_v54 m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).1 2).trans (((Gen.dats m 0 c).arrAt_in 2 rfl _).trans ((Gen.A_eq m c 2).trans (Gen.V_main_arg3 m c))),
      ((h c).2 main_arg4 (Pipeline.mem_restRefs_of main_arg4 (by decide) (by decide))).trans (Gen.W_main_arg4 m (Gen.dats m) c),
      ((h c).1 3).trans (((Gen.dats m 0 c).arrAt_in 3 rfl _).trans ((Gen.A_eq m c 3).trans (Gen.V_main_arg5 m c))),
      ((h c).2 main_arg6 (Pipeline.mem_restRefs_of main_arg6 (by decide) (by decide))).trans (Gen.W_main_arg6 m (Gen.dats m) c)⟩) (Gen.run_main m ρ)

end Cert.Ref

end
-- ==== Proof.Inverse.lean ====
/- The inverse of a scale: the kernel reads it off the exponent of the scale's word, the reference takes one over the
   largest power of two not above the scale. They are the same number. -/
module

public import proofs.«01_k».proof.Proof.Body
public import Idealize.ShloMosaic.Lib.Pointwise
public import Idealize.ShloMosaic.Lib.Tactic

@[expose] public section

noncomputable section

namespace Cert.Inverse

open Idealize.ShloMosaic

/-- The real number of a word below that of infinity. -/
def number (n : ℕ) : ℝ :=
  if n / 2 ^ 23 = 0 then (n % 2 ^ 23 : ℕ) * (2 : ℝ) ^ (-149 : ℤ)
  else (2 ^ 23 + n % 2 ^ 23 : ℕ) * (2 : ℝ) ^ (((n / 2 ^ 23 : ℕ) : ℤ) - 150)

theorem value (w : BitVec 32) (h : w.toNat < 0x7F800000) : Ideal.ofBits .f32 w = (number w.toNat : EReal) := by
  have h1 : (w.extractLsb' 31 1 == 1#1) = false := by
    rw [beq_eq_false_iff_ne]
    intro e
    have := congrArg BitVec.toNat e
    rw [BitVec.extractLsb'_toNat, Nat.shiftRight_eq_div_pow] at this
    have h2 : w.toNat / 2 ^ 31 = 0 := by omega
    rw [h2] at this
    simp at this
  have h2 : (w.extractLsb' 23 8).toNat = w.toNat / 2 ^ 23 := by
    rw [BitVec.extractLsb'_toNat, Nat.shiftRight_eq_div_pow]
    omega
  have h3 : (w.extractLsb' 0 23).toNat = w.toNat % 2 ^ 23 := by
    rw [BitVec.extractLsb'_toNat, Nat.shiftRight_zero]
  have h4 : ¬ w.toNat / 2 ^ 23 = 2 ^ 8 - 1 := by omega
  simp only [Ideal.ofBits, Ideal.ieee, Nat.reduceAdd, h1, h2, h3, if_neg h4, number, Bool.false_eq_true, if_false, one_mul]
  split_ifs with h5
  · norm_num
  · congr 3
    norm_num
    ring

/-- The scale of a usable word is a number, and not below zero. -/
theorem value_nonneg (w : BitVec 32) (h : w.toNat < 0x7F800000) : 0 ≤ Ideal.ofBits .f32 w := by
  rw [value w h]
  have : 0 ≤ number w.toNat := by
    unfold number
    split_ifs <;> positivity
  exact_mod_cast this

theorem value_ne_top (w : BitVec 32) (h : w.toNat < 0x7F800000) : Ideal.ofBits .f32 w ≠ ⊤ := by
  rw [value w h]
  exact EReal.coe_ne_top _

/-- The word of exponent `e` and fraction 0 is a power of two. -/
theorem power (e : ℕ) (h1 : 1 ≤ e) (h2 : e ≤ 254) (w : BitVec 32) (hw : w.toNat = e * 2 ^ 23) :
    Ideal.ofBits .f32 w = (((2 : ℝ) ^ ((e : ℤ) - 127) : ℝ) : EReal) := by
  rw [value w (by omega), hw, number, if_neg (by omega)]
  congr 1
  have h3 : e * 2 ^ 23 / 2 ^ 23 = e := by omega
  have h4 : e * 2 ^ 23 % 2 ^ 23 = 0 := by omega
  rw [h3, h4]
  have h5 : ((2 ^ 23 + 0 : ℕ) : ℝ) = (2 : ℝ) ^ (23 : ℤ) := by norm_num
  rw [h5, ← zpow_add₀ (by norm_num)]
  congr 1
  ring

/-- The powers of two the reference compares the scale with. -/
def powers (k : Fin 254) : BitVec 32 := BitVec.ofNat 32 ((k.val + 1) * 2 ^ 23)

theorem powers_value (k : Fin 254) :
    Ideal.ofBits .f32 (powers k) = (((2 : ℝ) ^ (((k.val + 1 : ℕ) : ℤ) - 127) : ℝ) : EReal) :=
  power _ (by omega) (by omega) _ (by rw [powers, BitVec.toNat_ofNat]; omega)

/-- A power is not above the scale just when its exponent is not above the scale's. -/
theorem powers_le (w : BitVec 32) (h : w.toNat < 0x7F800000) (k : Fin 254) :
    Ideal.ofBits .f32 (powers k) ≤ Ideal.ofBits .f32 w ↔ k.val + 1 ≤ w.toNat / 2 ^ 23 := by
  rw [powers_value, value w h, EReal.coe_le_coe_iff, number]
  have hf : w.toNat % 2 ^ 23 < 2 ^ 23 := Nat.mod_lt _ (by norm_num)
  generalize w.toNat % 2 ^ 23 = fr at hf
  generalize w.toNat / 2 ^ 23 = e
  split_ifs with he
  · constructor
    · intro hle
      exfalso
      have h1 : (fr : ℝ) * (2 : ℝ) ^ (-149 : ℤ) < (2 : ℝ) ^ (23 : ℤ) * (2 : ℝ) ^ (-149 : ℤ) := by
        apply mul_lt_mul_of_pos_right _ (by positivity)
        exact_mod_cast hf
      rw [← zpow_add₀ (by norm_num)] at h1
      have h2 : (2 : ℝ) ^ ((23 : ℤ) + -149) ≤ (2 : ℝ) ^ (((k.val + 1 : ℕ) : ℤ) - 127) :=
        zpow_le_zpow_right₀ (by norm_num) (by push_cast; omega)
      linarith
    · omega
  · have h0 : (2 : ℝ) ^ (23 : ℤ) * (2 : ℝ) ^ ((e : ℤ) - 150) = (2 : ℝ) ^ ((e : ℤ) - 127) := by
      rw [← zpow_add₀ (by norm_num)]
      congr 1
      ring
    have hpos : (0 : ℝ) < (2 : ℝ) ^ ((e : ℤ) - 150) := by positivity
    constructor
    · intro hle
      by_contra hlt
      have h1 : ((2 ^ 23 + fr : ℕ) : ℝ) * (2 : ℝ) ^ ((e : ℤ) - 150) < (2 : ℝ) ^ (24 : ℤ) * (2 : ℝ) ^ ((e : ℤ) - 150) := by
        apply mul_lt_mul_of_pos_right _ hpos
        have : 2 ^ 23 + fr < 2 ^ 24 := by omega
        exact_mod_cast this
      rw [← zpow_add₀ (by norm_num)] at h1
      have h2 : (2 : ℝ) ^ ((24 : ℤ) + ((e : ℤ) - 150)) ≤ (2 : ℝ) ^ (((k.val + 1 : ℕ) : ℤ) - 127) :=
        zpow_le_zpow_right₀ (by norm_num) (by push_cast; omega)
      linarith
    · intro hle
      have h1 : (2 : ℝ) ^ (23 : ℤ) * (2 : ℝ) ^ ((e : ℤ) - 150) ≤ ((2 ^ 23 + fr : ℕ) : ℝ) * (2 : ℝ) ^ ((e : ℤ) - 150) := by
        apply mul_le_mul_of_nonneg_right _ hpos.le
        have : 2 ^ 23 ≤ 2 ^ 23 + fr := by omega
        exact_mod_cast this
      rw [h0] at h1
      refine le_trans (zpow_le_zpow_right₀ (by norm_num) (by push_cast; omega)) h1

/-- The largest power of two not above the scale of word `w`, 0 if there is none, as the reference computes it. -/
def below (w : BitVec 32) : EReal :=
  Finset.univ.fold max ⊥ fun k : Fin 254 =>
    if Ideal.ofBits .f32 (powers k) ≤ Ideal.ofBits .f32 w then Ideal.ofBits .f32 (powers k) else 0

theorem below_eq (w : BitVec 32) (h : w.toNat < 0x7F800000) :
    below w = if w.toNat / 2 ^ 23 = 0 then 0 else (((2 : ℝ) ^ (((w.toNat / 2 ^ 23 : ℕ) : ℤ) - 127) : ℝ) : EReal) := by
  have hs : below w = Finset.univ.sup fun k : Fin 254 =>
      if Ideal.ofBits .f32 (powers k) ≤ Ideal.ofBits .f32 w then Ideal.ofBits .f32 (powers k) else (0 : EReal) := rfl
  rw [hs]
  simp only [powers_le w h]
  have he : w.toNat / 2 ^ 23 ≤ 254 := by omega
  generalize w.toNat / 2 ^ 23 = e at he
  apply le_antisymm
  · apply Finset.sup_le
    intro k _
    split_ifs with h1 h2 h2
    · omega
    · rw [powers_value, EReal.coe_le_coe_iff]
      exact zpow_le_zpow_right₀ (by norm_num) (by omega)
    · exact le_rfl
    · have : (0 : ℝ) ≤ (2 : ℝ) ^ ((e : ℤ) - 127) := by positivity
      exact_mod_cast this
  · split_ifs with h1
    · refine le_trans ?_ (Finset.le_sup (Finset.mem_univ (0 : Fin 254)))
      rw [if_neg (by simp; omega)]
    · have hk : e - 1 < 254 := by omega
      refine le_trans ?_ (Finset.le_sup (Finset.mem_univ (⟨e - 1, hk⟩ : Fin 254)))
      dsimp only
      rw [if_pos (by omega), powers_value]
      rw [EReal.coe_le_coe_iff]
      exact zpow_le_zpow_right₀ (by norm_num) (by push_cast; omega)

/-- The inverse scale as the reference computes it. -/
def ofScale (w : BitVec 32) : EReal :=
  if below w = 0 then Ideal.ofBits .f32 0x40000000#32 else Ideal.div (Ideal.ofBits .f32 0x3F800000#32) (below w)

/-- The inverse scale the kernel reads off the word. -/
theorem inverse_word (w : BitVec 32) (h : w.toNat < 0x7F000000) :
    Body.inverse (F := Ideal) w = Ideal.ofBits .f32
      (if w.toNat / 2 ^ 23 = 0 then 0x40000000#32 else BitVec.ofNat 32 ((254 - w.toNat / 2 ^ 23) * 2 ^ 23)) := by
  have he : Scalar.andi (Scalar.shrsi w 23#32) 255#32 = BitVec.ofNat 32 (w.toNat / 2 ^ 23) := by
    have hm : w.msb = false := by rw [BitVec.msb_eq_decide]; simp; omega
    show (w.sshiftRight _) &&& 255#32 = _
    rw [BitVec.sshiftRight_eq_of_msb_false hm]
    apply BitVec.eq_of_toNat_eq
    rw [BitVec.toNat_and, BitVec.toNat_ushiftRight, Nat.shiftRight_eq_div_pow]
    have h2 : (255#32).toNat = 2 ^ 8 - 1 := rfl
    rw [h2, Nat.and_two_pow_sub_one_eq_mod]
    show w.toNat / 2 ^ 23 % 2 ^ 8 = (BitVec.ofNat 32 (w.toNat / 2 ^ 23)).toNat
    rw [BitVec.toNat_ofNat]
    omega
  unfold Body.inverse
  rw [he]
  have h253 : w.toNat / 2 ^ 23 ≤ 253 := by omega
  generalize w.toNat / 2 ^ 23 = e at h253
  show Ideal.ofBits .f32 _ = _
  congr 1
  interval_cases e <;> rfl

/-- The two inverse scales are one number. -/
theorem inverse_eq (w : BitVec 32) (h : w.toNat < 0x7F000000) : Body.inverse (F := Ideal) w = ofScale w := by
  rw [inverse_word w h, ofScale, below_eq w (by omega)]
  have h253 : w.toNat / 2 ^ 23 ≤ 253 := by omega
  generalize w.toNat / 2 ^ 23 = e at h253
  by_cases h0 : e = 0
  · rw [if_pos h0, if_pos h0, if_pos rfl]
  · have hp : (2 : ℝ) ^ ((e : ℤ) - 127) ≠ 0 := by positivity
    rw [if_neg h0, if_neg h0, if_neg (by exact_mod_cast hp), Ideal.div_coe hp,
      power (254 - e) (by omega) (by omega) _ (by rw [BitVec.toNat_ofNat]; omega),
      power 127 (by omega) (by omega) 0x3F800000#32 (by rfl), ← EReal.coe_mul]
    congr 1
    rw [one_div, ← zpow_neg, ← zpow_add₀ (by norm_num)]
    congr 1
    push_cast [Nat.cast_sub (show e ≤ 254 by omega)]
    ring

end Cert.Inverse

end
-- ==== Proof.RefHost.lean ====
/- What the reference's host gives to its region: the new rows times the inverse of their head's scale. -/
module

public import proofs.«01_k».proof.Proof.RefTerms
public import proofs.«01_k».proof.Proof.Inverse
public import proofs.«01_k».proof.Proof.Gen.ReferenceIdeal.Frame
public import Idealize.ShloMosaic.Lib.StableHlo.Run
public import Idealize.ShloMosaic.Lib.Pipeline.ValueKit.Point

@[expose] public section

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

/-- The powers of two, from the smallest normal one on. -/
def powers : Vec F S254 .f32 := bitcastToFloat .f32 (Host.shli
  (addi (broadcastInDim S254 ![] bcast_S_S254 (constantI S_ 32 1#32)) (iotaInDim S254 32 0))
  (broadcastInDim S254 ![] bcast_S_S254 (constantI S_ 32 23#32)))

/-- The powers not above each scale, 0 in the place of the others. -/
def under (w : Vec F S4 .i32) : Vec F S4x254 .f32 :=
  select (cmpf .ole
      (broadcastInDim S4x254 ![0, 1] bcast_S1x254_S4x254_0_1 (broadcastInDim S1x254 ![1] bcast_S254_S1x254_1 (powers (F := F))))
      (broadcastInDim S4x254 ![0, 1] bcast_S4x1_S4x254_0_1 (broadcastInDim S4x1 ![0] bcast_S4_S4x1_0 (bitcastToFloat (F := F) .f32 w))))
    (broadcastInDim S4x254 ![0, 1] bcast_S1x254_S4x254_0_1 (broadcastInDim S1x254 ![1] bcast_S254_S1x254_1 powers))
    (broadcastInDim S4x254 ![] bcast_S_S4x254 (constant S_ .f32 0x00000000#32))

/-- The largest of them. -/
def largest (w : Vec F S4 .i32) : Vec F S4 .f32 :=
  Host.reduce FloatOps.maximumf (under w) (constant S_ .f32 0xFF800000#32) reducesTo_S4x254_S4_d1 h_S_

/-- The inverse scale of each head. -/
def inv (w : Vec F S4 .i32) : Vec F S4 .f32 :=
  select (cmpf .oeq (largest w) (broadcastInDim S4 ![] bcast_S_S4 (constant (F := F) S_ .f32 0x00000000#32)))
    (broadcastInDim S4 ![] bcast_S_S4 (constant S_ .f32 0x40000000#32))
    (Host.divf (broadcastInDim S4 ![] bcast_S_S4 (constant S_ .f32 0x3F800000#32)) (largest w))

/-- The new rows times the inverse scale of their head. -/
def scaled (x : Vec F S32x1x4x128 .bf16) (w : Vec F S4 .i32) : Vec F S32x4x128 .f32 :=
  mulf (extf .f32 (shapeCast S32x4x128 x shapeCasts_S32x1x4x128_S32x4x128) bitsLt_bf16_f32)
    (broadcastInDim S32x4x128 ![0, 1, 2] bcast_S1x4x1_S32x4x128_0_1_2
      (broadcastInDim S1x4x1 ![1, 2] bcast_S4x1_S1x4x1_1_2 (broadcastInDim S4x1 ![0] bcast_S4_S4x1_0 (inv w))))

theorem powers_apply (k : Fin 254) : (powers (F := Ideal)) (ix1 k) = Ideal.ofBits .f32 (Inverse.powers k) := by
  have hw : ∀ k : Fin 254, IntOp.shli .host (1#32 + BitVec.ofNat 32 k.val) 23#32 = Inverse.powers k := by decide +kernel
  rw [← hw]
  rfl

theorem under_apply (w : Vec Ideal S4 .i32) (n : Fin 4) (k : Fin 254) :
    under w (ix2 n k) = if Ideal.ofBits .f32 (Inverse.powers k) ≤ Ideal.ofBits .f32 (w (ix1 n))
      then Ideal.ofBits .f32 (Inverse.powers k) else (0 : EReal) := by
  rw [← powers_apply]
  unfold under
  generalize powers (F := Ideal) = p
  pointwise []

theorem largest_apply (w : Vec Ideal S4 .i32) (n : Fin 4) : largest w (ix1 n) = Inverse.below (w (ix1 n)) := by
  have hc : (constant (F := Ideal) S_ .f32 0xFF800000#32) (Shape.Idx.first h_S_) = (⊥ : EReal) := ofBits_bot
  unfold Inverse.below
  simp only [← under_apply]
  unfold largest
  generalize under w = y
  refine (Host.reduce_eq_fold (max : EReal → EReal → EReal) y _ _ _ _).trans ?_
  rw [hc]
  exact reducesTo_S4x254_S4_d1.fold_fiber_r2_a1 _ _ _ _

theorem inv_apply (w : Vec Ideal S4 .i32) (n : Fin 4) : inv w (ix1 n) = Inverse.ofScale (w (ix1 n)) := by
  unfold Inverse.ofScale
  rw [← largest_apply]
  unfold inv
  generalize largest w = y
  pointwise []

theorem scaled_apply (x : Vec Ideal S32x1x4x128 .bf16) (w : Vec Ideal S4 .i32) (b : Fin 32) (n : Fin 4) (d : Fin 128) :
    scaled x w (ix3 b n d) = x (ix4 b 0 n d) * Inverse.ofScale (w (ix1 n)) := by
  rw [← inv_apply]
  unfold scaled
  generalize inv w = y
  pointwise []

set_option maxRecDepth 16384 in
set_option maxHeartbeats 4000000 in
/-- The operations before the region from any contents `V0`, read at the keys' rows. -/
theorem head_main_v27 (V0 : Valuation τ sig (Elt F)) :
    after (List.flatten [hostOps0, hostOps0_1, hostOps0_2, hostOps0_3, hostOps0_4, hostOps0_5, hostOps0_6, hostOps0_7, hostOps0_8]) V0 (Proc.devRef .tc main_v27)
      = scaled (V0 (Proc.devRef .tc main_arg1)) (V0 (Proc.devRef .tc main_arg4)) := by
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp <;> rfl

set_option maxRecDepth 16384 in
set_option maxHeartbeats 4000000 in
/-- The operations before the region from any contents `V0`, read at the values' rows. -/
theorem head_main_v51 (V0 : Valuation τ sig (Elt F)) :
    after (List.flatten [hostOps0, hostOps0_1, hostOps0_2, hostOps0_3, hostOps0_4, hostOps0_5, hostOps0_6, hostOps0_7, hostOps0_8]) V0 (Proc.devRef .tc main_v51)
      = scaled (V0 (Proc.devRef .tc main_arg2)) (V0 (Proc.devRef .tc main_arg6)) := by
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp <;> rfl

variable (m : (ℓ : Loc nD τ sig) → Buf (Elt F) ℓ)

/-- The region finds the keys' new rows scaled. -/
theorem V_v27 (c : Dev nD) : V m c main_v27
    = scaled (m ((c.tc : Thread nD τ).loc main_arg1)) (m ((c.tc : Thread nD τ).loc main_arg4)) := head_main_v27 _

/-- The region finds the values' new rows scaled. -/
theorem V_v51 (c : Dev nD) : V m c main_v51
    = scaled (m ((c.tc : Thread nD τ).loc main_arg2)) (m ((c.tc : Thread nD τ).loc main_arg6)) := head_main_v51 _

end Cert.Ref

end
-- ==== Proof.RefRegion.lean ====
/- What the reference's region leaves in its results' arrays. -/
module

public import proofs.«01_k».proof.Proof.RefHost

@[expose] public section

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F] (m : (ℓ : Loc nD τ sig) → Buf (Elt F) ℓ)

theorem zeros3 : (![0, 0, 0] : Fin 3 → ℕ) = fun _ => 0 := by
  funext a
  fin_cases a <;> rfl

theorem zeros4 : (![0, 0, 0, 0] : Fin 4 → ℕ) = fun _ => 0 := by
  funext a
  fin_cases a <;> rfl

theorem index0 (t : Fin cfg0.N) (a) : win0_0.index t a = 0 := rfl

/-- Window 0's block is its array. -/
theorem read0 (c : Dev nD) (t : Fin cfg0.N) (X : Buf (Elt F) ((c.tc : Thread nD τ).loc main_v27)) :
    ((cfg0.win 0).blk t).view.read (Elt F) X = X := by
  funext y
  blk_ext [index0]

theorem blk0 (c : Dev nD) (t : Fin cfg0.N) : View.ld (iblk m c 0 t) r0_0 = V m c main_v27 :=
  (View.ld_unit_zero zeros3 _ _).trans (read0 c t _)

theorem index1 (t : Fin cfg0.N) (a) : win0_1.index t a = 0 := rfl

/-- Window 1's block is its array. -/
theorem read1 (c : Dev nD) (t : Fin cfg0.N) (X : Buf (Elt F) ((c.tc : Thread nD τ).loc main_v51)) :
    ((cfg0.win 1).blk t).view.read (Elt F) X = X := by
  funext y
  blk_ext [index1]

theorem blk1 (c : Dev nD) (t : Fin cfg0.N) : View.ld (iblk m c 1 t) r0_0 = V m c main_v51 :=
  (View.ld_unit_zero zeros3 _ _).trans (read1 c t _)

theorem index2 (t : Fin cfg0.N) (a) : win0_2.index t a = 0 := rfl

/-- Window 2's block is its array. -/
theorem read2 (c : Dev nD) (t : Fin cfg0.N) (X : Buf (Elt F) ((c.tc : Thread nD τ).loc main_arg3)) :
    ((cfg0.win 2).blk t).view.read (Elt F) X = X := by
  funext y
  blk_ext [index2]

theorem blk2 (c : Dev nD) (t : Fin cfg0.N) : View.ld (iblk m c 2 t) r0_1 = V m c main_arg3 :=
  (View.ld_unit_zero zeros4 _ _).trans (read2 c t _)

theorem index3 (t : Fin cfg0.N) (a) : win0_3.index t a = 0 := rfl

/-- Window 3's block is its array. -/
theorem read3 (c : Dev nD) (t : Fin cfg0.N) (X : Buf (Elt F) ((c.tc : Thread nD τ).loc main_arg5)) :
    ((cfg0.win 3).blk t).view.read (Elt F) X = X := by
  funext y
  blk_ext [index3]

theorem blk3 (c : Dev nD) (t : Fin cfg0.N) : View.ld (iblk m c 3 t) r0_1 = V m c main_arg5 :=
  (View.ld_unit_zero zeros4 _ _).trans (read3 c t _)

theorem index4 (t : Fin cfg0.N) (a) : win0_4.index t a = 0 := rfl

/-- The keys' codes after the region. -/
theorem arr4 (c : Dev nD) : (dats m 0 c).arrAt 4 cfg0.N = k0_pay2 (V m c main_v27) := by
  refine (dats m 0 c).arrAt_eq_of_covers 4 _ (by decide +kernel) fun t hf y => ?_
  blk_simp
  rw [after0_4]
  unfold out0_4
  rw [View.canon_unit_zero zeros3, blk0]
  generalize k0_pay2 (V m c main_v27) = X
  blk_ext! [index4]

theorem index5 (t : Fin cfg0.N) (a) : win0_5.index t a = 0 := rfl

/-- The values' codes after the region. -/
theorem arr5 (c : Dev nD) : (dats m 0 c).arrAt 5 cfg0.N = k0_pay3 (V m c main_v51) := by
  refine (dats m 0 c).arrAt_eq_of_covers 5 _ (by decide +kernel) fun t hf y => ?_
  blk_simp
  rw [after0_5]
  unfold out0_5
  rw [View.canon_unit_zero zeros3, blk1]
  generalize k0_pay3 (V m c main_v51) = X
  blk_ext! [index5]

theorem index6 (t : Fin cfg0.N) (a) : win0_6.index t a = 0 := rfl

/-- The keys' codes, widened, after the region. -/
theorem arr6 (c : Dev nD) : (dats m 0 c).arrAt 6 cfg0.N = k0_pay4 (V m c main_v27) := by
  refine (dats m 0 c).arrAt_eq_of_covers 6 _ (by decide +kernel) fun t hf y => ?_
  blk_simp
  rw [after0_6]
  unfold out0_6
  rw [View.canon_unit_zero zeros3, blk0]
  generalize k0_pay4 (V m c main_v27) = X
  blk_ext! [index6]

theorem index7 (t : Fin cfg0.N) (a) : win0_7.index t a = 0 := rfl

/-- The values' codes, widened, after the region. -/
theorem arr7 (c : Dev nD) : (dats m 0 c).arrAt 7 cfg0.N = k0_pay5 (V m c main_v51) := by
  refine (dats m 0 c).arrAt_eq_of_covers 7 _ (by decide +kernel) fun t hf y => ?_
  blk_simp
  rw [after0_7]
  unfold out0_7
  rw [View.canon_unit_zero zeros3, blk1]
  generalize k0_pay5 (V m c main_v51) = X
  blk_ext! [index7]

theorem index8 (t : Fin cfg0.N) (a) : win0_8.index t a = 0 := rfl

/-- The past keys, widened, after the region. -/
theorem arr8 (c : Dev nD) : (dats m 0 c).arrAt 8 cfg0.N = k0_pay6 (V m c main_arg3) := by
  refine (dats m 0 c).arrAt_eq_of_covers 8 _ (by decide +kernel) fun t hf y => ?_
  blk_simp
  rw [after0_8]
  unfold out0_8
  rw [View.canon_unit_zero zeros4, blk2]
  generalize k0_pay6 (V m c main_arg3) = X
  blk_ext! [index8]

theorem index9 (t : Fin cfg0.N) (a) : win0_9.index t a = 0 := rfl

/-- The past values, widened, after the region. -/
theorem arr9 (c : Dev nD) : (dats m 0 c).arrAt 9 cfg0.N = k0_pay1 (V m c main_arg5) := by
  refine (dats m 0 c).arrAt_eq_of_covers 9 _ (by decide +kernel) fun t hf y => ?_
  blk_simp
  rw [after0_9]
  unfold out0_9
  rw [View.canon_unit_zero zeros4, blk3]
  generalize k0_pay1 (V m c main_arg5) = X
  blk_ext! [index9]

end Cert.Ref

end
-- ==== Proof.RefAnswer.lean ====
/- The reference's results, read at an index. -/
module

public import proofs.«01_k».proof.Proof.RefRun
public import proofs.«01_k».proof.Proof.RefRegion
public import proofs.«01_k».proof.Proof.Finish

@[expose] public section

set_option maxRecDepth 16384

noncomputable section

namespace Cert.Ref

open Cert.ReferenceIdeal Cert.ReferenceIdeal.Gen Idealize.ShloMosaic Idealize.ShloMosaic.TcCoe Idealize.SL.Sem
open Cert.Body (code)
open scoped BigOperators

section
variable (a0 : Vec Ideal S32x1x4096 .bf16) (a1 a2 : Vec Ideal S32x1x4x128 .bf16) (a3 a5 : Vec Ideal S32x32768x4x128 .fp8e4m3)
  (a4 a6 : Vec Ideal S4 .i32) (b : Fin 32) (n : Fin 4) (g : Fin 8) (d : Fin 128)

/-- The score of a cached token. -/
def pastScore (t : Fin 32768) : EReal :=
  (∑ e : Fin 128, (a0 (ix3 b 0 ⟨n.val * 1024 + g.val * 128 + e.val, by omega⟩) : EReal)
    * (a3 (ix4 b t n e) * Ideal.ofBits .f32 (a4 (ix1 n)))) * Ideal.ofBits .f32 0x3DB504F3#32

/-- A new row's number, quantised and scaled back. -/
def again (x : Vec Ideal S32x1x4x128 .bf16) (w : Vec Ideal S4 .i32) : EReal :=
  code (x (ix4 b 0 n d)) (Inverse.ofScale (w (ix1 n))) * Ideal.ofBits .f32 (w (ix1 n))

/-- The score of the new token. -/
def lastScore : EReal :=
  (∑ e : Fin 128, (a0 (ix3 b 0 ⟨n.val * 1024 + g.val * 128 + e.val, by omega⟩) : EReal) * again b n e a1 a4)
    * Ideal.ofBits .f32 0x3DB504F3#32

/-- The answer. -/
def answerAt : EReal :=
  Ideal.div
    ((∑ t, Ideal.exp (pastScore a0 a3 a4 b n g t - max (Finset.univ.fold max ⊥ (pastScore a0 a3 a4 b n g)) (lastScore a0 a1 a4 b n g))
        * (a5 (ix4 b t n d) * Ideal.ofBits .f32 (a6 (ix1 n))))
      + Ideal.exp (lastScore a0 a1 a4 b n g - max (Finset.univ.fold max ⊥ (pastScore a0 a3 a4 b n g)) (lastScore a0 a1 a4 b n g))
        * again b n d a2 a6)
    ((∑ t, Ideal.exp (pastScore a0 a3 a4 b n g t - max (Finset.univ.fold max ⊥ (pastScore a0 a3 a4 b n g)) (lastScore a0 a1 a4 b n g)))
      + Ideal.exp (lastScore a0 a1 a4 b n g - max (Finset.univ.fold max ⊥ (pastScore a0 a3 a4 b n g)) (lastScore a0 a1 a4 b n g)))

theorem codes2_apply (x : Vec Ideal S32x4x128 .f32) : (k0_pay2 x (ix3 b n d) : EReal)
    = min (max (x (ix3 b n d)) (Ideal.ofBits .f32 0xC3E00000#32)) (Ideal.ofBits .f32 0x43E00000#32) := by
  pointwise [k0_pay2]

theorem codes3_apply (x : Vec Ideal S32x4x128 .f32) : (k0_pay3 x (ix3 b n d) : EReal)
    = min (max (x (ix3 b n d)) (Ideal.ofBits .f32 0xC3E00000#32)) (Ideal.ofBits .f32 0x43E00000#32) := by
  pointwise [k0_pay3]

theorem codes2_scaled (x : Vec Ideal S32x1x4x128 .bf16) (w : Vec Ideal S4 .i32) :
    (k0_pay2 (scaled x w) (ix3 b n d) : EReal) = code (x (ix4 b 0 n d)) (Inverse.ofScale (w (ix1 n))) := by
  rw [codes2_apply, scaled_apply, min_comm, max_comm]
  rfl

theorem codes3_scaled (x : Vec Ideal S32x1x4x128 .bf16) (w : Vec Ideal S4 .i32) :
    (k0_pay3 (scaled x w) (ix3 b n d) : EReal) = code (x (ix4 b 0 n d)) (Inverse.ofScale (w (ix1 n))) := by
  rw [codes3_apply, scaled_apply, min_comm, max_comm]
  rfl

/-- A new row's code. -/
def codeAt (x : Vec Ideal S32x1x4x128 .bf16) (w : Vec Ideal S4 .i32) : EReal := code (x (ix4 b 0 n d)) (Inverse.ofScale (w (ix1 n)))

theorem codes2_codeAt (x : Vec Ideal S32x1x4x128 .bf16) (w : Vec Ideal S4 .i32) :
    (k0_pay2 (scaled x w) (ix3 b n d) : EReal) = codeAt b n d x w := codes2_scaled b n d x w

theorem codes3_codeAt (x : Vec Ideal S32x1x4x128 .bf16) (w : Vec Ideal S4 .i32) :
    (k0_pay3 (scaled x w) (ix3 b n d) : EReal) = codeAt b n d x w := codes3_scaled b n d x w

/-- The codes of all rows, row after row. -/
def flat (X : Vec Ideal S32x4x128 .fp8e4m3) : Vec Ideal S128x128 .fp8e4m3 := shapeCast S128x128 X shapeCasts_S32x4x128_S128x128

theorem flat_apply (X : Vec Ideal S32x4x128 .fp8e4m3) : (flat X (ix2 ⟨b.val * 4 + n.val, by omega⟩ d) : EReal) = X (ix3 b n d) := by
  pointwise [flat]

theorem attend_answerAt :
    attend (sPast a0 (past (k0_pay6 a3) a4)) (sLast a0 (last (k0_pay4 (scaled a1 a4)) a4)) (past (k0_pay1 a5) a6)
      (last (k0_pay5 (scaled a2 a6)) a6) (ix3 b ⟨n.val * 8 + g.val, by omega⟩ d) = answerAt a0 a1 a2 a3 a5 a4 a6 b n g d := by
  have e4 : ∀ e : Fin 128, k0_pay4 (scaled a1 a4) (ix3 b n e) = code (a1 (ix4 b 0 n e)) (Inverse.ofScale (a4 (ix1 n))) :=
    fun e => codes2_scaled b n e a1 a4
  have e5 : ∀ e : Fin 128, k0_pay5 (scaled a2 a6) (ix3 b n e) = code (a2 (ix4 b 0 n e)) (Inverse.ofScale (a6 (ix1 n))) :=
    fun e => codes3_scaled b n e a2 a6
  have hp : ∀ t, sPast a0 (past (k0_pay6 a3) a4) (ix4 b n g t) = pastScore a0 a3 a4 b n g t := by
    intro t
    rw [sPast_apply]
    simp only [heads_apply, past_apply]
    rfl
  have hl : sLast a0 (last (k0_pay4 (scaled a1 a4)) a4) (ix3 b n g) = lastScore a0 a1 a4 b n g := by
    rw [sLast_apply]
    simp only [heads_apply, last_apply, e4]
    rfl
  rw [attend_apply]
  simp only [top_apply, hp, hl, past_apply, last_apply, e5]
  rfl

end

variable (m : (ℓ : Loc nD τ sig) → Buf (Elt Ideal) ℓ) (c : Dev nD)

/-- The reference's answers. -/
theorem answers_at (b : Fin 32) (n : Fin 4) (g : Fin 8) (d : Fin 128) :
    res_main_v103 m c (ix3 b ⟨n.val * 8 + g.val, by omega⟩ d)
      = answerAt (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg5)) (m ((c.tc : Thread nD τ).loc main_arg4))
          (m ((c.tc : Thread nD τ).loc main_arg6)) b n g d := by
  rw [← attend_answerAt]
  unfold res_main_v103 reg_main_v52_2 reg_main_v52_3 reg_main_v52_4 reg_main_v52_5
  rw [arr6, arr7, arr8, arr9, V_v27, V_v51, V_main_arg3, V_main_arg5]

/-- The reference's codes of the keys. -/
theorem codes_k (b : Fin 32) (n : Fin 4) (d : Fin 128) :
    flat (reg_main_v52_0 m c) (ix2 ⟨b.val * 4 + n.val, by omega⟩ d)
      = codeAt b n d (m ((c.tc : Thread nD τ).loc main_arg1)) (m ((c.tc : Thread nD τ).loc main_arg4)) := by
  rw [flat_apply, ← codes2_codeAt]
  unfold reg_main_v52_0
  rw [arr4, V_v27]

/-- The reference's codes of the values. -/
theorem codes_v (b : Fin 32) (n : Fin 4) (d : Fin 128) :
    flat (reg_main_v52_1 m c) (ix2 ⟨b.val * 4 + n.val, by omega⟩ d)
      = codeAt b n d (m ((c.tc : Thread nD τ).loc main_arg2)) (m ((c.tc : Thread nD τ).loc main_arg6)) := by
  rw [flat_apply, ← codes3_codeAt]
  unfold reg_main_v52_1
  rw [arr5, V_v51]

end Cert.Ref

end
-- ==== Proof.Equal.lean ====
/- The kernel's results are the reference's. -/
module

public import proofs.«01_k».proof.Proof.Batch
public import proofs.«01_k».proof.Proof.KernelCodes
public import proofs.«01_k».proof.Proof.RefAnswer

@[expose] public section

set_option maxRecDepth 16384

noncomputable section

namespace Cert.Body

open Idealize.ShloMosaic Idealize.ShloMosaic.TcCoe Cert.KernelIdeal Cert.KernelIdeal.Gen Cert.KernelIdeal.Value
open scoped BigOperators

section
variable (a0 : Vec Ideal S32x1x4096 .bf16) (a1 a2 : Vec Ideal S32x1x4x128 .bf16) (a3 a5 : Vec Ideal S32x32768x4x128 .fp8e4m3)
  (a4 a6 : Vec Ideal S4 .i32)

/-- Every word is one of a scale, and not too large. -/
def Usable (w : Vec Ideal S4 .i32) : Prop := ∀ n : Fin 4, BitVec.toNat (w (ix1 n)) < 0x7F000000

/-- Where the queries' array has place `e` of head `h`. -/
def queryAt (h : Fin 32) (e : Fin 128) : Fin 4096 := ⟨h.val * 128 + e.val, by omega⟩

variable (q : Vec Ideal S1x32x128 .bf16) (kn vn : Vec Ideal S1x4x128 .bf16) (ks vs : Vec Ideal S4 .f32)
  (kp vp : ℕ → Vec Ideal S1x32768x128 .fp8e4m3) (b : Fin 32)
  (hq : ∀ (h : Fin 32) (e : Fin 128), q (ix3 0 h e) = a0 (ix3 b 0 (queryAt h e)))
  (hkn : ∀ (n : Fin 4) (e : Fin 128), kn (ix3 0 n e) = a1 (ix4 b 0 n e))
  (hvn : ∀ (n : Fin 4) (e : Fin 128), vn (ix3 0 n e) = a2 (ix4 b 0 n e))
  (hks : ∀ n : Fin 4, ks (ix1 n) = Ideal.ofBits .f32 (a4 (ix1 n)))
  (hvs : ∀ n : Fin 4, vs (ix1 n) = Ideal.ofBits .f32 (a6 (ix1 n)))
  (hkp : ∀ (j : Fin 4) (r : Fin 32768) (n : Fin 4) (e : Fin 128), r.val % 4 = n.val →
    kp j.val (ix3 0 r e) = a3 (ix4 b (Softmax.token j r) n e))
  (hvp : ∀ (j : Fin 4) (r : Fin 32768) (n : Fin 4) (e : Fin 128), r.val % 4 = n.val →
    vp j.val (ix3 0 r e) = a5 (ix4 b (Softmax.token j r) n e))
  (hu4 : Usable a4) (hu6 : Usable a6)

include hq hks hkp hu4 in
theorem score_eq (n : Fin 4) (g : Fin 8) (j : Fin 4) (r : Fin 32768) (hr : r.val % 4 = n.val) :
    rowScore q ks (kp j.val) n g r = Ref.pastScore a0 a3 a4 b n g (Softmax.token j r) := by
  rw [rowScore, if_pos hr, Ref.pastScore, ← mul_assoc]
  refine congrArg (· * Ideal.ofBits .f32 0x3DB504F3#32) ?_
  have h := hu4 n
  rw [hks, Softmax.sum_mul _ _ (Inverse.value_nonneg _ (by omega)) (Inverse.value_ne_top _ (by omega))]
  refine Finset.sum_congr rfl fun e _ => ?_
  rw [hq, hkp j r n e hr, mul_assoc]
  have hi : queryAt ⟨n.val * 8 + g.val, by omega⟩ e = ⟨n.val * 1024 + g.val * 128 + e.val, by omega⟩ :=
    Fin.ext (by simp only [queryAt]; omega)
  rw [hi]

include hkn hu4 in
theorem code_eq (n : Fin 4) (e : Fin 128) :
    code (kn (ix3 0 n e)) (inverse (F := Ideal) (a4 (ix1 n))) = code (a1 (ix4 b 0 n e)) (Inverse.ofScale (a4 (ix1 n))) := by
  rw [hkn, Inverse.inverse_eq _ (hu4 n)]

include hq hkn hks hu4 in
theorem token_eq (n : Fin 4) (g : Fin 8) : tokenScore q kn ks a4 n g = Ref.lastScore a0 a1 a4 b n g := by
  rw [tokenScore, Ref.lastScore]
  refine congrArg (· * Ideal.ofBits .f32 0x3DB504F3#32) ?_
  refine Finset.sum_congr rfl fun e _ => ?_
  rw [code_eq a1 a4 kn b hkn hu4, hks, hq]
  have hi : queryAt ⟨n.val * 8 + g.val, by omega⟩ e = ⟨n.val * 1024 + g.val * 128 + e.val, by omega⟩ :=
    Fin.ext (by simp only [queryAt]; omega)
  rw [hi]
  rfl

include hq hkn hvn hks hvs hkp hvp hu4 hu6 in
/-- **The answers are the reference's.** -/
theorem answer_eq (n : Fin 4) (g : Fin 8) (d : Fin 128) :
    answerOf (maxAt q ks kp 4 n g) (sumAt q ks kp 4 n g) (outAt q ks kp vp 4 n g d) (vs (ix1 n)) (tokenScore q kn ks a4 n g)
        (code (vn (ix3 0 n d)) (inverse (F := Ideal) (a6 (ix1 n))) * vs (ix1 n))
      = Ref.answerAt a0 a1 a2 a3 a5 a4 a6 b n g d := by
  rw [token_eq a0 a1 a4 q kn ks b hq hkn hks hu4, code_eq a2 a6 vn b hvn hu6, hvs]
  have h := hu6 n
  exact Softmax.join n (Ref.pastScore a0 a3 a4 b n g) (fun t => a5 (ix4 b t n d)) (scoresOf q ks kp n g) (fun j r => vp j (ix3 0 r d))
    (Ideal.ofBits .f32 (a6 (ix1 n))) (Ref.lastScore a0 a1 a4 b n g) (Ref.again b n d a2 a6)
    (Inverse.value_nonneg _ (by omega)) (Inverse.value_ne_top _ (by omega))
    (fun j r hr => score_eq a0 a3 a4 q ks kp b hq hks hkp hu4 n g j r hr)
    (fun j r hr => if_neg hr)
    (fun j r hr => hvp j r n d hr)

end

end Cert.Body

end
-- ==== Proof.Final.lean ====
/- The arrays the kernel ends with are those the reference ends with. -/
module

public import proofs.«01_k».proof.Proof.Equal

@[expose] public section

set_option maxRecDepth 16384

noncomputable section

namespace Cert.Body

open Idealize.ShloMosaic Idealize.ShloMosaic.TcCoe Cert.KernelIdeal Cert.KernelIdeal.Gen Cert.KernelIdeal.Value

section
variable (m : (ℓ : Loc nD τ sig) → Buf (Elt Ideal) ℓ) (c : Dev nD) (b : Fin 32)

theorem Q_at (h : Fin 32) (e : Fin 128) :
    Q m c b (ix3 0 h e) = m ((c.tc : Thread nD τ).loc main_arg0) (ix3 b 0 (queryAt h e)) := by
  show V m c main_v0 (ix3 b h e) = _
  rw [Host.V_v0]
  exact queries_at _ b h e

theorem KN_at (n : Fin 4) (e : Fin 128) : KN m c b (ix3 0 n e) = m ((c.tc : Thread nD τ).loc main_arg1) (ix4 b 0 n e) := by
  show V m c main_v1 (ix3 b n e) = _
  rw [Host.V_v1]
  exact new_at _ b n e

theorem VN_at (n : Fin 4) (e : Fin 128) : VN m c b (ix3 0 n e) = m ((c.tc : Thread nD τ).loc main_arg2) (ix4 b 0 n e) := by
  show V m c main_v2 (ix3 b n e) = _
  rw [Host.V_v2]
  exact new_at _ b n e

theorem KS_at (n : Fin 4) : KS m c (ix1 n) = Ideal.ofBits .f32 (m ((c.tc : Thread nD τ).loc main_arg4) (ix1 n)) := by
  rw [KS, Host.V_v5]
  rfl

theorem VS_at (n : Fin 4) : VS m c (ix1 n) = Ideal.ofBits .f32 (m ((c.tc : Thread nD τ).loc main_arg6) (ix1 n)) := by
  rw [VS, Host.V_v6]
  rfl

theorem row_token (j : Fin 4) (r : Fin 32768) (n : Fin 4) (hr : r.val % 4 = n.val) :
    (⟨j.val % 4 * 32768 + r.val, by omega⟩ : Fin 131072) = ⟨(Softmax.token j r).val * 4 + n.val, by omega⟩ := by
  refine Fin.ext ?_
  show j.val % 4 * 32768 + r.val = (j.val * 8192 + r.val / 4) * 4 + n.val
  omega

theorem KP_at (j : Fin 4) (r : Fin 32768) (n : Fin 4) (e : Fin 128) (hr : r.val % 4 = n.val) :
    KP m c b j.val (ix3 0 r e) = m ((c.tc : Thread nD τ).loc main_arg3) (ix4 b (Softmax.token j r) n e) := by
  show V m c main_v15 (ix3 b ⟨j.val % 4 * 32768 + r.val, _⟩ e) = _
  rw [row_token j r n hr, Host.V_v15]
  exact cache_at _ b (Softmax.token j r) n e

theorem VP_at (j : Fin 4) (r : Fin 32768) (n : Fin 4) (e : Fin 128) (hr : r.val % 4 = n.val) :
    VP m c b j.val (ix3 0 r e) = m ((c.tc : Thread nD τ).loc main_arg5) (ix4 b (Softmax.token j r) n e) := by
  show V m c main_v16 (ix3 b ⟨j.val % 4 * 32768 + r.val, _⟩ e) = _
  rw [row_token j r n hr, Host.V_v16]
  exact cache_at _ b (Softmax.token j r) n e

variable (hu4 : Usable (m ((c.tc : Thread nD τ).loc main_arg4))) (hu6 : Usable (m ((c.tc : Thread nD τ).loc main_arg6)))

include hu4 hu6 in
/-- The kernel's answer for one query, at one place of the head, is the reference's value of the arguments. -/
theorem kernel_answer (n : Fin 4) (g : Fin 8) (d : Fin 128) :
    (dats m 0 c).arrAt 13 cfg0.N (ix3 b ⟨n.val * 8 + g.val, by omega⟩ d)
      = Ref.answerAt (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg5)) (m ((c.tc : Thread nD τ).loc main_arg4))
          (m ((c.tc : Thread nD τ).loc main_arg6)) b n g d := by
  rw [answers_at, after_answers, V_main_arg4, V_main_arg6]
  exact answer_eq _ _ _ _ _ _ _ (Q m c b) (KN m c b) (VN m c b) (KS m c) (VS m c) (KP m c b) (VP m c b) b
    (Q_at m c b) (KN_at m c b) (VN_at m c b) (KS_at m c) (VS_at m c) (KP_at m c b) (VP_at m c b) hu4 hu6 n g d

include hu4 in
/-- The kernel's code of a key. -/
theorem kernel_code_k (n : Fin 4) (d : Fin 128) :
    (dats m 0 c).arrAt 14 cfg0.N (ix2 ⟨b.val * 4 + n.val, by omega⟩ d)
      = Ref.codeAt b n d (m ((c.tc : Thread nD τ).loc main_arg1)) (m ((c.tc : Thread nD τ).loc main_arg4)) := by
  rw [codes_k, Host.V_v3, Host.V_v10, Ref.codeAt, ← Inverse.inverse_eq _ (hu4 n)]
  exact codes_at _ _ b n d

include hu6 in
/-- The kernel's code of a value. -/
theorem kernel_code_v (n : Fin 4) (d : Fin 128) :
    (dats m 0 c).arrAt 15 cfg0.N (ix2 ⟨b.val * 4 + n.val, by omega⟩ d)
      = Ref.codeAt b n d (m ((c.tc : Thread nD τ).loc main_arg2)) (m ((c.tc : Thread nD τ).loc main_arg6)) := by
  rw [codes_v, Host.V_v4, Host.V_v14, Ref.codeAt, ← Inverse.inverse_eq _ (hu6 n)]
  exact codes_at _ _ b n d

end

/-- Arrays with the same element for every head, query and place are the same. -/
theorem answers_ext (X Y : Vec Ideal S32x32x128 .f32)
    (h : ∀ (b : Fin 32) (n : Fin 4) (g : Fin 8) (d : Fin 128),
      X (ix3 b ⟨n.val * 8 + g.val, by omega⟩ d) = Y (ix3 b ⟨n.val * 8 + g.val, by omega⟩ d)) : X = Y := by
  funext i
  obtain ⟨b, r, d, rfl⟩ : ∃ (b : Fin 32) (r : Fin 32) (d : Fin 128), i = ix3 b r d :=
    ⟨i 0, i 1, i 2, by funext a; fin_cases a <;> rfl⟩
  have hr : r = (⟨(⟨r.val / 8, by omega⟩ : Fin 4).val * 8 + (⟨r.val % 8, by omega⟩ : Fin 8).val, by simp only []; omega⟩ : Fin 32) :=
    Fin.ext (by simp only []; omega)
  rw [hr]
  exact h b ⟨r.val / 8, by omega⟩ ⟨r.val % 8, by omega⟩ d

/-- Codes with the same element for every batch, head and place are the same. -/
theorem codes_ext (X Y : Vec Ideal S128x128 .fp8e4m3)
    (h : ∀ (b : Fin 32) (n : Fin 4) (d : Fin 128),
      X (ix2 ⟨b.val * 4 + n.val, by omega⟩ d) = Y (ix2 ⟨b.val * 4 + n.val, by omega⟩ d)) : X = Y := by
  funext i
  obtain ⟨r, d, rfl⟩ : ∃ (r : Fin 128) (d : Fin 128), i = ix2 r d := ⟨i 0, i 1, by funext a; fin_cases a <;> rfl⟩
  have hr : r = (⟨(⟨r.val / 4, by omega⟩ : Fin 32).val * 4 + (⟨r.val % 4, by omega⟩ : Fin 4).val, by simp only []; omega⟩ : Fin 128) :=
    Fin.ext (by simp only []; omega)
  rw [hr]
  exact h ⟨r.val / 4, by omega⟩ ⟨r.val % 4, by omega⟩ d

section
variable (m : (ℓ : Loc nD τ sig) → Buf (Elt Ideal) ℓ) (c : Dev nD)
  (m' : (ℓ : Loc Cert.ReferenceIdeal.nD Cert.ReferenceIdeal.τ Cert.ReferenceIdeal.sig) → Buf (Elt Ideal) ℓ)
  (h0 : m' ((c.tc : Thread Cert.ReferenceIdeal.nD Cert.ReferenceIdeal.τ).loc Cert.ReferenceIdeal.main_arg0) = m ((c.tc : Thread nD τ).loc main_arg0))
  (h1 : m' ((c.tc : Thread Cert.ReferenceIdeal.nD Cert.ReferenceIdeal.τ).loc Cert.ReferenceIdeal.main_arg1) = m ((c.tc : Thread nD τ).loc main_arg1))
  (h2 : m' ((c.tc : Thread Cert.ReferenceIdeal.nD Cert.ReferenceIdeal.τ).loc Cert.ReferenceIdeal.main_arg2) = m ((c.tc : Thread nD τ).loc main_arg2))
  (h3 : m' ((c.tc : Thread Cert.ReferenceIdeal.nD Cert.ReferenceIdeal.τ).loc Cert.ReferenceIdeal.main_arg3) = m ((c.tc : Thread nD τ).loc main_arg3))
  (h4 : m' ((c.tc : Thread Cert.ReferenceIdeal.nD Cert.ReferenceIdeal.τ).loc Cert.ReferenceIdeal.main_arg4) = m ((c.tc : Thread nD τ).loc main_arg4))
  (h5 : m' ((c.tc : Thread Cert.ReferenceIdeal.nD Cert.ReferenceIdeal.τ).loc Cert.ReferenceIdeal.main_arg5) = m ((c.tc : Thread nD τ).loc main_arg5))
  (h6 : m' ((c.tc : Thread Cert.ReferenceIdeal.nD Cert.ReferenceIdeal.τ).loc Cert.ReferenceIdeal.main_arg6) = m ((c.tc : Thread nD τ).loc main_arg6))
  (hu4 : Usable (m ((c.tc : Thread nD τ).loc main_arg4))) (hu6 : Usable (m ((c.tc : Thread nD τ).loc main_arg6)))

include h0 h1 h2 h3 h4 h5 h6 hu4 hu6 in
/-- The answers are the reference's. -/
theorem results : Ref.res_main_v103 m' c = (dats m 0 c).arrAt 13 cfg0.N := by
  refine answers_ext _ _ fun b n g d => ?_
  rw [kernel_answer m c b hu4 hu6 n g d]
  refine (Ref.answers_at m' c b n g d).trans ?_
  rw [h0, h1, h2, h3, h4, h5, h6]

include h1 h4 hu4 in
/-- The codes of the keys are the reference's. -/
theorem codes_keys : Ref.flat (Ref.reg_main_v52_0 m' c) = (dats m 0 c).arrAt 14 cfg0.N := by
  refine codes_ext _ _ fun b n d => ?_
  rw [kernel_code_k m c b hu4 n d]
  refine (Ref.codes_k m' c b n d).trans ?_
  rw [h1, h4]

include h2 h6 hu6 in
/-- The codes of the values are the reference's. -/
theorem codes_values : Ref.flat (Ref.reg_main_v52_1 m' c) = (dats m 0 c).arrAt 15 cfg0.N := by
  refine codes_ext _ _ fun b n d => ?_
  rw [kernel_code_v m c b hu6 n d]
  refine (Ref.codes_v m' c b n d).trans ?_
  rw [h2, h6]

end

/-- The kernel's run, with every result's buffer named. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v17_0) = (dats m 0 c).arrAt 13 cfg0.N
      ∧ r.2.mem ((c.tc : Thread nD τ).loc main_v17_1) = (dats m 0 c).arrAt 14 cfg0.N
      ∧ r.2.mem ((c.tc : Thread nD τ).loc main_v5) = bitcastToFloat (F := Ideal) .f32 (m ((c.tc : Thread nD τ).loc main_arg4))
      ∧ r.2.mem ((c.tc : Thread nD τ).loc main_v17_2) = (dats m 0 c).arrAt 15 cfg0.N
      ∧ r.2.mem ((c.tc : Thread nD τ).loc main_v6) = bitcastToFloat (F := Ideal) .f32 (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨post13 m r h c,
      post14 m r h c,
      ((h c).1 7).trans (((dats m 0 c).arrAt_in 7 rfl _).trans ((A_eq m c 7).trans (Host.V_v5 m c))),
      post15 m r h c,
      ((h c).1 8).trans (((dats m 0 c).arrAt_in 8 rfl _).trans ((A_eq m c 8).trans (Host.V_v6 m c))),
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.Body

end
-- ==== Proof.Ranges.lean ====
/- What the precondition says of the scales' words. -/
module

public import proofs.«01_k».proof.Defs
public import proofs.«01_k».proof.Proof.Equal

@[expose] public section

noncomputable section

namespace Cert.Body

open Idealize.ShloMosaic

theorem and_one (a b : BitVec 1) (h : a &&& b = 1#1) : a = 1#1 ∧ b = 1#1 := by
  revert a b
  decide

theorem word_range (w : BitVec 32) (h1 : IntOp.cmpi .sge w 0#32 = 1#1) (h2 : IntOp.cmpi .slt w 2130706432#32 = 1#1) :
    w.toNat < 0x7F000000 := by
  have h3 : (0 : ℤ) ≤ w.toInt := by
    by_contra hc
    simp [IntOp.cmpi, BitVec.sle, hc] at h1
  have h4 : w.toInt < 2130706432 := by
    by_contra hc
    simp [IntOp.cmpi, BitVec.slt, hc] at h2
  rw [BitVec.toInt_eq_toNat_cond] at h3 h4
  have := w.isLt
  split at h3 <;> omega

/-- The shape condition that the precondition states. -/
theorem ranges_facts : Cert.Pre_usable_scales.Facts := ⟨by decide⟩

section
variable [Cert.Pre_usable_scales.Facts]
  (a0 : Vec Ideal Cert.Pre_usable_scales.S32x1x4096 .bf16) (a1 a2 : Vec Ideal Cert.Pre_usable_scales.S32x1x4x128 .bf16)
  (a3 a5 : Vec Ideal Cert.Pre_usable_scales.S32x32768x4x128 .fp8e4m3) (a4 a6 : IVec Cert.Pre_usable_scales.S4 32)

/-- Where the precondition holds, every word is one of a scale, and not too large. -/
theorem usable (h : Cert.Pre_usable_scales.fn (F := Ideal) a0 a1 a2 a3 a4 a5 a6 = fun _ => 1) :
    Usable a4 ∧ Usable a6 := by
  have hn : ∀ n : Fin 4, Cert.Pre_usable_scales.fn (F := Ideal) a0 a1 a2 a3 a4 a5 a6 (ix1 n) = 1#1 := fun n => congrFun h _
  have key : ∀ n : Fin 4, BitVec.toNat (a4 (ix1 n)) < 0x7F000000 ∧ BitVec.toNat (a6 (ix1 n)) < 0x7F000000 := fun n => by
    have e : (IntOp.cmpi .sge (a4 (ix1 n)) 0#32 &&& IntOp.cmpi .slt (a4 (ix1 n)) 2130706432#32)
        &&& (IntOp.cmpi .sge (a6 (ix1 n)) 0#32 &&& IntOp.cmpi .slt (a6 (ix1 n)) 2130706432#32) = 1#1 := hn n
    obtain ⟨e1, e2⟩ := and_one _ _ e
    obtain ⟨e3, e4⟩ := and_one _ _ e1
    obtain ⟨e5, e6⟩ := and_one _ _ e2
    exact ⟨word_range _ e3 e4, word_range _ e5 e6⟩
  exact ⟨fun n => (key n).1, fun n => (key n).2⟩

end

end Cert.Body

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Final
public import proofs.«01_k».proof.Proof.Ranges
public import Idealize.ShloMosaic.Adequacy
public import Idealize.ShloMosaic.Init

@[expose] public section

noncomputable section

namespace Cert.Proof

open Idealize.ShloMosaic Idealize.SL.Sem Cert.Kernel

/-- On usable scales the kernel and the reference, from the same arguments, end with the same five arrays. -/
theorem algebraic : @Cert.algebraic_KernelIdeal_ReferenceIdeal_pre_usable_scales Cert.KernelIdeal.Gen.facts Cert.ReferenceIdeal.Gen.facts
    Cert.Body.ranges_facts := by
  intro m g m' g' hpre hagree
  refine ⟨_, _, _, _, _, Cert.Body.run m g, ?_⟩
  refine θ_run_mono (Cert.Ref.run m' g') fun r h c => ?_
  obtain ⟨e0, e1, e2, e3, e4, kept⟩ := h c
  obtain ⟨h0, h1, h2, h3, h4, h5, h6⟩ := hagree c
  obtain ⟨hu4, hu6⟩ := @Cert.Body.usable Cert.Body.ranges_facts _ _ _ _ _ _ _ (hpre c)
  refine ⟨e0.trans ?_, e1.trans ?_, e2.trans ?_, e3.trans ?_, e4.trans ?_, kept⟩
  · exact Cert.Body.results m c m' h0 h1 h2 h3 h4 h5 h6 hu4 hu6
  · exact Cert.Body.codes_keys m c m' h1 h4 hu4
  · exact congrArg (bitcastToFloat (F := Ideal) (s := Cert.KernelIdeal.S4) .f32) h4
  · exact Cert.Body.codes_values m c m' h2 h6 hu6
  · exact congrArg (bitcastToFloat (F := Ideal) (s := Cert.KernelIdeal.S4) .f32) h6

/-- Everything claimed. -/
theorem claim : Cert.Claim := ⟨Cert.Kernel.Gen.facts, Cert.KernelIdeal.Gen.facts, Cert.ReferenceIdeal.Gen.facts, Cert.Body.ranges_facts,
  fun m g _ => Cert.Kernel.Gen.frame m g,
  fun m g _ => Cert.KernelIdeal.Gen.frame m g,
  fun m g _ => Cert.KernelIdeal.Gen.frame m g,
  fun m g _ => Cert.ReferenceIdeal.Gen.frame m g,
  fun m g _ => Cert.ReferenceIdeal.Gen.frame m g,
  trivial, algebraic⟩

end Cert.Proof

end
